-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S4096x4096 : Shape := ⟨2, ![4096, 4096]⟩
abbrev S256x256x2 : Shape := ⟨3, ![256, 256, 2]⟩
abbrev S256x1x2 : Shape := ⟨3, ![256, 1, 2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256x2 : S_.BroadcastsInDim S256x256x2 (![] : Fin 0 → Fin S256x256x2.rank)
  reducesTo_S256x256x2_S_d0_1_2 : S256x256x2.ReducesTo [0, 1, 2] S_
  bcast_S_S256x1x2 : S_.BroadcastsInDim S256x1x2 (![] : Fin 0 → Fin S256x1x2.rank)
  reducesTo_S256x1x2_S_d0_1_2 : S256x1x2.ReducesTo [0, 1, 2] S_

variable [Facts]

def fn_part1 {F : FTy → Type} [FloatOps F] (main_v13 : IVec S_ 1) (main_v16 : IVec S256x1x2 1) : IVec S_ 1 :=
  let main_c_5 : IVec S_ 1 := constantI S_ 1 1#1
  let main_v17 : IVec S_ 1 := (fun x v => Host.reduce IntOp.andi x v reducesTo_S256x1x2_S_d0_1_2 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256x2 .f32) (main_arg3 : FVec F S256x1x2 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256x2 .f32 := Host.absf main_arg2
  let main_cst_2 : FVec F S_ .f32 := constant S_ .f32 0x7F800000#32
  let main_v10 : FVec F S256x256x2 .f32 := broadcastInDim S256x256x2 ![] bcast_S_S256x256x2 main_cst_2
  let main_v11 : IVec S256x256x2 1 := cmpf .olt main_v9 main_v10
  let main_c_3 : IVec S_ 1 := constantI S_ 1 1#1
  let main_v12 : IVec S_ 1 := (fun x v => Host.reduce IntOp.andi x v reducesTo_S256x256x2_S_d0_1_2 h_S_) main_v11 main_c_3
  let main_v13 : IVec S_ 1 := andi main_v8 main_v12
  let main_v14 : FVec F S256x1x2 .f32 := Host.absf main_arg3
  let main_cst_4 : FVec F S_ .f32 := constant S_ .f32 0x7F800000#32
  let main_v15 : FVec F S256x1x2 .f32 := broadcastInDim S256x1x2 ![] bcast_S_S256x1x2 main_cst_4
  let main_v16 : IVec S256x1x2 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256x2 : Shape := ⟨3, ![256, 256, 2]⟩
abbrev S256x1x2 : Shape := ⟨3, ![256, 1, 2]⟩
abbrev S256x256x1 : Shape := ⟨3, ![256, 256, 1]⟩
abbrev S256x256 : Shape := ⟨2, ![256, 256]⟩
abbrev S256x1x1 : Shape := ⟨3, ![256, 1, 1]⟩
abbrev S256x1 : Shape := ⟨2, ![256, 1]⟩
abbrev S4096x1 : Shape := ⟨2, ![4096, 1]⟩
abbrev S256x3 : Shape := ⟨2, ![256, 3]⟩
abbrev S4096x3 : Shape := ⟨2, ![4096, 3]⟩
abbrev S1024x1024 : Shape := ⟨2, ![1024, 1024]⟩
abbrev S1024x1 : Shape := ⟨2, ![1024, 1]⟩
abbrev S1024x2 : Shape := ⟨2, ![1024, 2]⟩

abbrev nBuf : Space → Nat
  | .hbm => 16
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256x2, .f32⟩
  | .hbm, ⟨3, _⟩ => ⟨S256x1x2, .f32⟩
  | .hbm, ⟨4, _⟩ => ⟨S256x256x1, .f32⟩
  | .hbm, ⟨5, _⟩ => ⟨S256x256, .f32⟩
  | .hbm, ⟨6, _⟩ => ⟨S256x256x1, .f32⟩
  | .hbm, ⟨7, _⟩ => ⟨S256x256, .f32⟩
  | .hbm, ⟨8, _⟩ => ⟨S256x1x1, .f32⟩
  | .hbm, ⟨9, _⟩ => ⟨S256x1, .f32⟩
  | .hbm, ⟨10, _⟩ => ⟨S256x1x1, .f32⟩
  | .hbm, ⟨11, _⟩ => ⟨S256x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .local _ .vmem, ⟨0, _⟩ => ⟨S4096x256, .f32⟩
  | .local _ .vmem, ⟨1, _⟩ => ⟨S256x256, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S1024x1024, .f32⟩
  | .local _ .vmem, ⟨9, _⟩ => ⟨S1024x1024, .f32⟩
  | .local _ .vmem, ⟨10, _⟩ => ⟨S4096x1, .f32⟩
  | .local _ .vmem, ⟨11, _⟩ => ⟨S4096x1, .f32⟩
  | .local _ .vmem, ⟨12, _⟩ => ⟨S4096x1, .f32⟩
  | .local _ .vmem, ⟨13, _⟩ => ⟨S1024x1, .f32⟩
  | .local _ .vmem, ⟨14, _⟩ => ⟨S1024x1, .f32⟩
  | .local _ .vmem, ⟨15, _⟩ => ⟨S4096x1, .f32⟩
  | .local _ .vmem, ⟨16, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := .none

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![26], ![false]⟩

def k1_off1 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli v17 c4_i32_4
  let v19 : BitVec 32 := Scalar.subi arg0 v18
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let c9_i32_13 : BitVec 32 := 9#32
  let v34 : BitVec 1 := Scalar.cmpi .sge v20 c9_i32_13
  let c9_i32_14 : BitVec 32 := 9#32
  let c7_i32_11 : BitVec 32 := 7#32
  let v29 : BitVec 1 := Scalar.cmpi .sge v20 c7_i32_11
  let c7_i32_12 : BitVec 32 := 7#32
  let c4_i32_8 : BitVec 32 := 4#32
  let v24 : BitVec 1 := Scalar.cmpi .sge v20 c4_i32_8
  let c4_i32_9 : BitVec 32 := 4#32
  let c0_i32_10 : BitVec 32 := 0#32
  let v25 : BitVec 32 := Scalar.select v24 c4_i32_9 c0_i32_10
  let v30 : BitVec 32 := Scalar.select v29 c7_i32_12 v25
  let v35 : BitVec 32 := Scalar.select v34 c9_i32_14 v30
  let v36 : BitVec 32 := Scalar.subi v20 v35
  let v37 : BitVec 32 := Scalar.addi v33 v36
  let v39 : BitVec 32 := Scalar.select v0 v19 v37
  let c1024_i32 : BitVec 32 := 1024#32
  let v42 : BitVec 32 := Scalar.muli v39 c1024_i32
  let v43 : Index := Scalar.indexCast v42
  let c0_16 : Index := 0#32
  ![v43.toNat, 0]
def k1_cond1 (i : grid1.Coords) : BitVec 1 :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli v17 c4_i32_4
  let v19 : BitVec 32 := Scalar.subi arg0 v18
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let c9_i32_13 : BitVec 32 := 9#32
  let v34 : BitVec 1 := Scalar.cmpi .sge v20 c9_i32_13
  let c9_i32_14 : BitVec 32 := 9#32
  let c7_i32_11 : BitVec 32 := 7#32
  let v29 : BitVec 1 := Scalar.cmpi .sge v20 c7_i32_11
  let c7_i32_12 : BitVec 32 := 7#32
  let c4_i32_8 : BitVec 32 := 4#32
  let v24 : BitVec 1 := Scalar.cmpi .sge v20 c4_i32_8
  let c4_i32_9 : BitVec 32 := 4#32
  let c0_i32_10 : BitVec 32 := 0#32
  let v25 : BitVec 32 := Scalar.select v24 c4_i32_9 c0_i32_10
  let v30 : BitVec 32 := Scalar.select v29 c7_i32_12 v25
  let v35 : BitVec 32 := Scalar.select v34 c9_i32_14 v30
  let v36 : BitVec 32 := Scalar.subi v20 v35
  let v37 : BitVec 32 := Scalar.addi v33 v36
  let v39 : BitVec 32 := Scalar.select v0 v19 v37
  let c0_i32_22 : BitVec 32 := 0#32
  let v62 : BitVec 1 := Scalar.cmpi .eq v39 c0_i32_22
  let v63 : BitVec 1 := Scalar.andi v0 v62
  let v64 : BitVec 32 := Scalar.extui v63
  let c0_i32_23 : BitVec 32 := 0#32
  let v65 : BitVec 1 := Scalar.cmpi .ne v64 c0_i32_23
  v65

def k1_off2 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let v38 : BitVec 32 := Scalar.select v0 v17 v33
  let c1024_i32_32 : BitVec 32 := 1024#32
  let v78 : BitVec 32 := Scalar.muli v38 c1024_i32_32
  let v79 : Index := Scalar.indexCast v78
  let c0_33 : Index := 0#32
  ![v79.toNat, 0]
def k1_cond2 (i : grid1.Coords) : BitVec 1 :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli v17 c4_i32_4
  let v19 : BitVec 32 := Scalar.subi arg0 v18
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let c9_i32_13 : BitVec 32 := 9#32
  let v34 : BitVec 1 := Scalar.cmpi .sge v20 c9_i32_13
  let c9_i32_14 : BitVec 32 := 9#32
  let c7_i32_11 : BitVec 32 := 7#32
  let v29 : BitVec 1 := Scalar.cmpi .sge v20 c7_i32_11
  let c7_i32_12 : BitVec 32 := 7#32
  let c4_i32_8 : BitVec 32 := 4#32
  let v24 : BitVec 1 := Scalar.cmpi .sge v20 c4_i32_8
  let c4_i32_9 : BitVec 32 := 4#32
  let c0_i32_10 : BitVec 32 := 0#32
  let v25 : BitVec 32 := Scalar.select v24 c4_i32_9 c0_i32_10
  let v30 : BitVec 32 := Scalar.select v29 c7_i32_12 v25
  let v35 : BitVec 32 := Scalar.select v34 c9_i32_14 v30
  let v36 : BitVec 32 := Scalar.subi v20 v35
  let v37 : BitVec 32 := Scalar.addi v33 v36
  let v39 : BitVec 32 := Scalar.select v0 v19 v37
  let c0_i32_24 : BitVec 32 := 0#32
  let v66 : BitVec 1 := Scalar.cmpi .ne v39 c0_i32_24
  let v67 : BitVec 1 := Scalar.andi v0 v66
  let v68 : BitVec 32 := Scalar.extui v67
  let c0_i32_25 : BitVec 32 := 0#32
  let v69 : BitVec 1 := Scalar.cmpi .ne v68 c0_i32_25
  v69

def k1_off3 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let v38 : BitVec 32 := Scalar.select v0 v17 v33
  let c1024_i32_32 : BitVec 32 := 1024#32
  let v77 : BitVec 32 := Scalar.muli v38 c1024_i32_32
  let v78 : Index := Scalar.indexCast v77
  let c0_33 : Index := 0#32
  ![v78.toNat, 0]
def k1_cond3 (i : grid1.Coords) : BitVec 1 :=
  let arg0 : BitVec 32 := BitVec.ofNat 32 (i 0).val
  let c16_i32 : BitVec 32 := 16#32
  let v0 : BitVec 1 := Scalar.cmpi .slt arg0 c16_i32
  let true_26 : BitVec 1 := 1#1
  let v70 : BitVec 1 := Scalar.xori v0 true_26
  let v71 : BitVec 32 := Scalar.extui v70
  let c0_i32_27 : BitVec 32 := 0#32
  let v72 : BitVec 1 := Scalar.cmpi .ne v71 c0_i32_27
  v72

def k1_off4 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let v38 : BitVec 32 := Scalar.select v0 v17 v33
  let c1024_i32_32 : BitVec 32 := 1024#32
  let v77 : BitVec 32 := Scalar.muli v38 c1024_i32_32
  let v78 : Index := Scalar.indexCast v77
  let c0_33 : Index := 0#32
  ![v78.toNat, 0]
def k1_off5 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c0_i32_7 : BitVec 32 := 0#32
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let v23 : BitVec 32 := Scalar.addi c0_i32_7 v22
  let c7_i32 : BitVec 32 := 7#32
  let v26 : BitVec 1 := Scalar.cmpi .sge v20 c7_i32
  let v27 : BitVec 32 := Scalar.extui v26
  let v28 : BitVec 32 := Scalar.addi v23 v27
  let c9_i32 : BitVec 32 := 9#32
  let v31 : BitVec 1 := Scalar.cmpi .sge v20 c9_i32
  let v32 : BitVec 32 := Scalar.extui v31
  let v33 : BitVec 32 := Scalar.addi v28 v32
  let v38 : BitVec 32 := Scalar.select v0 v17 v33
  let c1024_i32_28 : BitVec 32 := 1024#32
  let v73 : BitVec 32 := Scalar.muli v38 c1024_i32_28
  let v74 : Index := Scalar.indexCast v73
  let c0_29 : Index := 0#32
  ![v74.toNat, 0]
def cc1_transform_0 (i : grid1.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli v17 c4_i32_4
  let v19 : BitVec 32 := Scalar.subi arg0 v18
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let c0_i32_7 : BitVec 32 := 0#32
  let v23 : BitVec 32 := Scalar.addi c0_i32_7 v22
  let c4_i32_8 : BitVec 32 := 4#32
  let v24 : BitVec 1 := Scalar.cmpi .sge v20 c4_i32_8
  let c4_i32_9 : BitVec 32 := 4#32
  let c0_i32_10 : BitVec 32 := 0#32
  let v25 : BitVec 32 := Scalar.select v24 c4_i32_9 c0_i32_10
  let c7_i32 : BitVec 32 := 7#32
  let v26 : BitVec 1 := Scalar.cmpi .sge v20 c7_i32
  let v27 : BitVec 32 := Scalar.extui v26
  let v28 : BitVec 32 := Scalar.addi v23 v27
  let c7_i32_11 : BitVec 32 := 7#32
  let v29 : BitVec 1 := Scalar.cmpi .sge v20 c7_i32_11
  let c7_i32_12 : BitVec 32 := 7#32
  let v30 : BitVec 32 := Scalar.select v29 c7_i32_12 v25
  let c9_i32 : BitVec 32 := 9#32
  let v31 : BitVec 1 := Scalar.cmpi .sge v20 c9_i32
  let v32 : BitVec 32 := Scalar.extui v31
  let v33 : BitVec 32 := Scalar.addi v28 v32
  let c9_i32_13 : BitVec 32 := 9#32
  let v34 : BitVec 1 := Scalar.cmpi .sge v20 c9_i32_13
  let c9_i32_14 : BitVec 32 := 9#32
  let v35 : BitVec 32 := Scalar.select v34 c9_i32_14 v30
  let v36 : BitVec 32 := Scalar.subi v20 v35
  let v37 : BitVec 32 := Scalar.addi v33 v36
  let v38 : BitVec 32 := Scalar.select v0 v17 v33
  let v39 : BitVec 32 := Scalar.select v0 v19 v37
  let c0_i32_15 : BitVec 32 := 0#32
  ![v38.toNat, v39.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli v17 c4_i32_4
  let v19 : BitVec 32 := Scalar.subi arg0 v18
  let c16_i32_5 : BitVec 32 := 16#32
  let v20 : BitVec 32 := Scalar.subi arg0 c16_i32_5
  let c4_i32_6 : BitVec 32 := 4#32
  let v21 : BitVec 1 := Scalar.cmpi .sge v20 c4_i32_6
  let v22 : BitVec 32 := Scalar.extui v21
  let c0_i32_7 : BitVec 32 := 0#32
  let v23 : BitVec 32 := Scalar.addi c0_i32_7 v22
  let c4_i32_8 : BitVec 32 := 4#32
  let v24 : BitVec 1 := Scalar.cmpi .sge v20 c4_i32_8
  let c4_i32_9 : BitVec 32 := 4#32
  let c0_i32_10 : BitVec 32 := 0#32
  let v25 : BitVec 32 := Scalar.select v24 c4_i32_9 c0_i32_10
  let c7_i32 : BitVec 32 := 7#32
  let v26 : BitVec 1 := Scalar.cmpi .sge v20 c7_i32
  let v27 : BitVec 32 := Scalar.extui v26
  let v28 : BitVec 32 := Scalar.addi v23 v27
  let c7_i32_11 : BitVec 32 := 7#32
  let v29 : BitVec 1 := Scalar.cmpi .sge v20 c7_i32_11
  let c7_i32_12 : BitVec 32 := 7#32
  let v30 : BitVec 32 := Scalar.select v29 c7_i32_12 v25
  let c9_i32 : BitVec 32 := 9#32
  let v31 : BitVec 1 := Scalar.cmpi .sge v20 c9_i32
  let v32 : BitVec 32 := Scalar.extui v31
  let v33 : BitVec 32 := Scalar.addi v28 v32
  let c9_i32_13 : BitVec 32 := 9#32
  let v34 : BitVec 1 := Scalar.cmpi .sge v20 c9_i32_13
  let c9_i32_14 : BitVec 32 := 9#32
  let v35 : BitVec 32 := Scalar.select v34 c9_i32_14 v30
  let v36 : BitVec 32 := Scalar.subi v20 v35
  let v37 : BitVec 32 := Scalar.addi v33 v36
  let v38 : BitVec 32 := Scalar.select v0 v17 v33
  let v39 : BitVec 32 := Scalar.select v0 v19 v37
  let c0_i32_15 : BitVec 32 := 0#32
  let c0_i32_16 : BitVec 32 := 0#32
  ![v38.toNat, c0_i32_15.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4096x256 : Shape := ⟨2, ![4096, 256]⟩
abbrev S4096x4096 : Shape := ⟨2, ![4096, 4096]⟩
abbrev S256x256x2 : Shape := ⟨3, ![256, 256, 2]⟩
abbrev S256x1x2 : Shape := ⟨3, ![256, 1, 2]⟩
abbrev S4096x256x1 : Shape := ⟨3, ![4096, 256, 1]⟩
abbrev S4096x256x2 : Shape := ⟨3, ![4096, 256, 2]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256x2, .f32⟩
  | .hbm, ⟨3, _⟩ => ⟨S256x1x2, .f32⟩
  | .hbm, ⟨4, _⟩ => ⟨S4096x256, .f32⟩
  | .hbm, ⟨5, _⟩ => ⟨S4096x256x1, .f32⟩
  | .hbm, ⟨6, _⟩ => ⟨S4096x256x1, .f32⟩
  | .hbm, ⟨7, _⟩ => ⟨S4096x256x2, .f32⟩
  | .hbm, ⟨8, _⟩ => ⟨S4096x256, .f32⟩
  | .hbm, ⟨9, _⟩ => ⟨S4096x256, .f32⟩
  | .hbm, ⟨10, _⟩ => ⟨S4096x256x1, .f32⟩
  | .hbm, ⟨11, _⟩ => ⟨S4096x256x1, .f32⟩
  | .hbm, ⟨12, _⟩ => ⟨S4096x256x2, .f32⟩
  | .hbm, ⟨13, _⟩ => ⟨S4096x1, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Schedule.lean ====
module

public import proofs.«01_k».proof.Proof.Gen.KernelIdeal.Skeleton
public import proofs.«01_k».proof.Proof.Gen.KernelIdeal.Points

/-!
The grid of the second kernel.

Its 26 points are 16 points of a first pass, which goes through the 4 × 4 tiles of the Laplacian row by row, and 10
points of a second pass, which goes through the tiles on and above the diagonal.  `row` and `col` name the tile of a
point; the theorems say that the integers the kernel computes from its point (offsets, conditions, selected words)
are these.
-/

@[expose] public section

noncomputable section

namespace Cert.KernelIdeal.Sweep

open Cert.KernelIdeal Cert.KernelIdeal.Gen
open Idealize.ShloMosaic Idealize.SL.Sem

/-- The tile row of the `n`-th point. -/
def row (n : ℕ) : ℕ := if n < 16 then n / 4 else if n < 20 then 0 else if n < 23 then 1 else if n < 25 then 2 else 3

/-- The tile column of the `n`-th point. -/
def col (n : ℕ) : ℕ := if n < 16 then n % 4 else if n < 20 then n - 16 else if n < 23 then n - 19 else if n < 25 then n - 21 else 3

/-- There are four tile rows, -/
theorem row_lt (n : ℕ) : row n < 4 := by unfold row; split_ifs <;> omega
/-- and four tile columns. -/
theorem col_lt (n : ℕ) (h : n < 26) : col n < 4 := by unfold col; split_ifs <;> omega

/-- Does the `n`-th point belong to the first pass? -/
def pass1 (i : grid1.Coords) : BitVec 1 := if (i 0).val < 16 then 1#1 else 0#1
/-- The row the kernel computes for a point of the first pass. -/
def jOne (i : grid1.Coords) : BitVec 32 := BitVec.ofNat 32 ((i 0).val / 4)
/-- The column the kernel computes for a point of the first pass. -/
def bOne (i : grid1.Coords) : BitVec 32 := BitVec.ofNat 32 ((i 0).val % 4)
/-- The row the kernel computes for a point of the second pass. -/
def jTwo (i : grid1.Coords) : BitVec 32 := BitVec.ofNat 32 (if (i 0).val < 16 then 0 else row (i 0).val)
/-- The column the kernel computes for a point of the second pass. -/
def bTwo (i : grid1.Coords) : BitVec 32 := if (i 0).val < 16 then BitVec.ofNat 32 (i 0).val - 16#32 else BitVec.ofNat 32 (col (i 0).val)

variable {F : FTy → Type} [FloatOps F]

/-- The first part of the kernel's text only computes the five words above. -/
theorem part1_eq (i : grid1.Coords) (arg1 : Memref sig .tc .vmem S1024x1024 .f32) (harg1 : arg1.IsWhole)
    (arg2 : Memref sig .tc .vmem S4096x1 .f32) (harg2 : arg2.IsWhole) (arg3 : Memref sig .tc .vmem S4096x1 .f32) (harg3 : arg3.IsWhole)
    (arg4 : Memref sig .tc .vmem S4096x1 .f32) (harg4 : arg4.IsWhole) (arg5 : Memref sig .tc .vmem S1024x1 .f32) (harg5 : arg5.IsWhole)
    (arg6 : Memref sig .tc .vmem S4096x1 .f32) (harg6 : arg6.IsWhole) (arg7 : Memref sig .tc .vmem S4096x1 .f32) (harg7 : arg7.IsWhole) :
    k1_part1 (F := F) i arg1 harg1 arg2 harg2 arg3 harg3 arg4 harg4 arg5 harg5 arg6 harg6 arg7 harg7
      = pure ⟨pass1 i, jOne i, bOne i, jTwo i, bTwo i⟩ := by
  rw [k1_part1_eq_skeleton]
  unfold k1_part1_skel
  dsimp only
  refine congrArg pure ?_
  congr 1
  congr 1
  · revert i; decide +kernel
  congr 1
  · revert i; decide +kernel
  congr 1
  · revert i; decide +kernel
  · revert i; decide +kernel

/-- The block of `w`, `v` and `s` that a point reads begins at the point's column. -/
theorem off1_eq : ∀ t : Fin cfg1.N, k1_off1 (grid1.coords t) = ![1024 * col t.val, 0] := by decide +kernel
/-- The block that a row's first point stores begins at the point's row; -/
theorem off2_eq : ∀ t : Fin cfg1.N, k1_off2 (grid1.coords t) = ![1024 * row t.val, 0] := by decide +kernel
/-- so does the block that a later point of the first pass adds to, -/
theorem off3_eq : ∀ t : Fin cfg1.N, k1_off3 (grid1.coords t) = ![1024 * row t.val, 0] := by decide +kernel
/-- the block that a point of the second pass adds to, -/
theorem off4_eq : ∀ t : Fin cfg1.N, k1_off4 (grid1.coords t) = ![1024 * row t.val, 0] := by decide +kernel
/-- and the block that is copied to the result. -/
theorem off5_eq : ∀ t : Fin cfg1.N, k1_off5 (grid1.coords t) = ![1024 * row t.val, 0] := by decide +kernel
/-- The first branch is taken at the first point of a row in the first pass, -/
theorem cond1_iff : ∀ t : Fin cfg1.N, k1_cond1 (grid1.coords t) = 1#1 ↔ t.val < 16 ∧ t.val % 4 = 0 := by decide +kernel
/-- the second at the row's other points in the first pass, -/
theorem cond2_iff : ∀ t : Fin cfg1.N, k1_cond2 (grid1.coords t) = 1#1 ↔ t.val < 16 ∧ t.val % 4 ≠ 0 := by decide +kernel
/-- and the third in the second pass. -/
theorem cond3_iff : ∀ t : Fin cfg1.N, k1_cond3 (grid1.coords t) = 1#1 ↔ ¬ t.val < 16 := by decide +kernel

/-- Does the point's second column read `v` plus `s`, or zero? -/
def uses (n : ℕ) : Prop := ¬ n < 16 ∨ col n < row n

/-- `uses` is decidable. -/
instance (n : ℕ) : Decidable (uses n) := inferInstanceAs (Decidable (_ ∨ _))

/-- The word that selects the second column of a point's product. -/
theorem uses_eq : ∀ t : Fin cfg1.N,
    Scalar.ori (Scalar.xori (pass1 (grid1.coords t)) 1#1)
      (Scalar.cmpi .slt (Scalar.select (pass1 (grid1.coords t)) (bOne (grid1.coords t)) (bTwo (grid1.coords t)))
        (Scalar.select (pass1 (grid1.coords t)) (jOne (grid1.coords t)) (jTwo (grid1.coords t))))
      = if uses t.val then 1#1 else 0#1 := by decide +kernel

end Cert.KernelIdeal.Sweep

end
-- ==== Proof.Sweep.lean ====
module

public import proofs.«01_k».proof.Proof.Schedule
public import proofs.«01_k».proof.Proof.Gen.KernelIdeal.Launch
public import Idealize.ShloMosaic.Lib.Pipeline.RegionsLoop
public import Idealize.ShloMosaic.Lib.Tactic
public import Idealize.ShloMosaic.Lib.VecWindow

@[expose] public section

noncomputable section

namespace Cert.KernelIdeal.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a memref's buffer on core `c`, and the buffer held whole at `f`. -/
abbrev Bf (c : Dev nD) {sp : Space} {S : Shape} {e : EltTy} (M : Memref sig .tc sp S e) : Type := Buf (Elt F) (M.view.loc (c : Thread nD τ))
/-- Whole ownership of a buffer with contents `f`. -/
abbrev pt (c : Dev nD) {sp : Space} {S : Shape} {e : EltTy} (M : Memref sig .tc sp S e) (f : Bf (F := F) c M) : sProp 𝕄 :=
  M.view.loc (c : Thread nD τ) ↦{fullShare} f

/-- The offset of the blocks a point reads, in closed form. -/
instance off1 (t : Fin cfg1.N) : ClosedOff (k1_off1 (grid1.coords t)) := ⟨![1024 * col t.val, 0], off1_eq t⟩
/-- The offset of the first branch, in closed form. -/
instance off2 (t : Fin cfg1.N) : ClosedOff (k1_off2 (grid1.coords t)) := ⟨![1024 * row t.val, 0], off2_eq t⟩
/-- The offset of the second branch, in closed form. -/
instance off3 (t : Fin cfg1.N) : ClosedOff (k1_off3 (grid1.coords t)) := ⟨![1024 * row t.val, 0], off3_eq t⟩
/-- The offset of the third branch, in closed form. -/
instance off4 (t : Fin cfg1.N) : ClosedOff (k1_off4 (grid1.coords t)) := ⟨![1024 * row t.val, 0], off4_eq t⟩
/-- The offset of the block copied to the result, in closed form. -/
instance off5 (t : Fin cfg1.N) : ClosedOff (k1_off5 (grid1.coords t)) := ⟨![1024 * row t.val, 0], off5_eq t⟩

/-- Four blocks of 1024 rows fill the 4096 rows. -/
theorem row_inb (t : Fin cfg1.N) : ∀ a, (![1024 * row t.val, 0] : Fin 2 → ℕ) a + S1024x1.size a ≤ S4096x1.size a := by
  rw [← off5_eq t]; exact k1_off5_inb _
/-- A block of 1024 rows at the point's column lies inside the 4096 rows. -/
theorem col_inb (t : Fin cfg1.N) : ∀ a, (![1024 * col t.val, 0] : Fin 2 → ℕ) a + S1024x1.size a ≤ S4096x1.size a := by
  rw [← off1_eq t]; exact k1_off1_inb _

/-- The block of a column of numbers at the point's tile row. -/
def atRow (t : Fin cfg1.N) (x : Vec F S4096x1 .f32) : Vec F S1024x1 .f32 :=
  VecWindow.window (s := S4096x1) x ![1024 * row t.val, 0] S1024x1.size (row_inb t)
/-- The block of a column of numbers at the point's tile column. -/
def atCol (t : Fin cfg1.N) (x : Vec F S4096x1 .f32) : Vec F S1024x1 .f32 :=
  VecWindow.window (s := S4096x1) x ![1024 * col t.val, 0] S1024x1.size (col_inb t)
/-- A column with the block at the point's row replaced. -/
def putRow (t : Fin cfg1.N) (x : Vec F S4096x1 .f32) (y : Vec F S1024x1 .f32) : Vec F S4096x1 .f32 :=
  VecWindow.put (s := S4096x1) x ![1024 * row t.val, 0] S1024x1.size y

/-- A load at the first offset reads the block at the point's tile column. -/
theorem load_col (M : Memref sig .tc .vmem S4096x1 .f32) (t : Fin cfg1.N) (f : M.view.ty.Contents (Elt F))
    (inb : ∀ a, k1_off1 (grid1.coords t) a + (![1024, 1] : Fin 2 → ℕ) a ≤ S4096x1.size a) :
    M.view.readAt (Elt F) (Rect.unit (s := S4096x1) (k1_off1 (grid1.coords t)) ![1024, 1] inb).toLoadRect f = atCol t (M.view.read (Elt F) f) :=
  View.readAt_unit (s := S4096x1) M.view f inb (off1_eq t) (col_inb t)
/-- The first branch's load reads the block at the point's row, -/
theorem load_row2 (M : Memref sig .tc .vmem S4096x1 .f32) (t : Fin cfg1.N) (f : M.view.ty.Contents (Elt F))
    (inb : ∀ a, k1_off2 (grid1.coords t) a + (![1024, 1] : Fin 2 → ℕ) a ≤ S4096x1.size a) :
    M.view.readAt (Elt F) (Rect.unit (s := S4096x1) (k1_off2 (grid1.coords t)) ![1024, 1] inb).toLoadRect f = atRow t (M.view.read (Elt F) f) :=
  View.readAt_unit (s := S4096x1) M.view f inb (off2_eq t) (row_inb t)
/-- so does the second branch's, -/
theorem load_row3 (M : Memref sig .tc .vmem S4096x1 .f32) (t : Fin cfg1.N) (f : M.view.ty.Contents (Elt F))
    (inb : ∀ a, k1_off3 (grid1.coords t) a + (![1024, 1] : Fin 2 → ℕ) a ≤ S4096x1.size a) :
    M.view.readAt (Elt F) (Rect.unit (s := S4096x1) (k1_off3 (grid1.coords t)) ![1024, 1] inb).toLoadRect f = atRow t (M.view.read (Elt F) f) :=
  View.readAt_unit (s := S4096x1) M.view f inb (off3_eq t) (row_inb t)
/-- and so does the third branch's. -/
theorem load_row4 (M : Memref sig .tc .vmem S4096x1 .f32) (t : Fin cfg1.N) (f : M.view.ty.Contents (Elt F))
    (inb : ∀ a, k1_off4 (grid1.coords t) a + (![1024, 1] : Fin 2 → ℕ) a ≤ S4096x1.size a) :
    M.view.readAt (Elt F) (Rect.unit (s := S4096x1) (k1_off4 (grid1.coords t)) ![1024, 1] inb).toLoadRect f = atRow t (M.view.read (Elt F) f) :=
  View.readAt_unit (s := S4096x1) M.view f inb (off4_eq t) (row_inb t)
/-- A load of the whole tile reads the tile. -/
theorem load_tile (M : Memref sig .tc .vmem S1024x1024 .f32) (f : M.view.ty.Contents (Elt F))
    (inb : ∀ a, (![0, 0] : Fin 2 → ℕ) a + (![1024, 1024] : Fin 2 → ℕ) a ≤ S1024x1024.size a) :
    M.view.readAt (Elt F) (Rect.unit (s := S1024x1024) ![0, 0] ![1024, 1024] inb).toLoadRect f = M.view.read (Elt F) f :=
  View.readAt_full M.view f inb

/-- What the body leaves in the first scratch column: over a tile `l` and the columns `w`, `v`, from `s`. -/
def nextS (t : Fin cfg1.N) (l : Vec F S1024x1024 .f32) (w v s : Vec F S4096x1 .f32) : Vec F S4096x1 .f32 :=
  if t.val < 16 then
    putRow t s (if t.val % 4 = 0 then
      k1_pay2 (pass1 (grid1.coords t)) (jOne (grid1.coords t)) (bOne (grid1.coords t)) (jTwo (grid1.coords t)) (bTwo (grid1.coords t)) l (atCol t w) (atCol t v) (atCol t s)
    else
      k1_pay4 (pass1 (grid1.coords t)) (jOne (grid1.coords t)) (bOne (grid1.coords t)) (jTwo (grid1.coords t)) (bTwo (grid1.coords t)) l (atCol t w) (atCol t v) (atCol t s) (atRow t s))
  else s

/-- The block the body stores in the second scratch column, from `s` and `o`, with the column `u` read besides. -/
def blockO (t : Fin cfg1.N) (l : Vec F S1024x1024 .f32) (w v u s o : Vec F S4096x1 .f32) : Vec F S1024x1 .f32 :=
  if t.val < 16 then
    if t.val % 4 = 0 then
      k1_pay3 (pass1 (grid1.coords t)) (jOne (grid1.coords t)) (bOne (grid1.coords t)) (jTwo (grid1.coords t)) (bTwo (grid1.coords t)) l (atCol t w) (atCol t v) (atCol t s) (atRow t u)
    else
      k1_pay5 (pass1 (grid1.coords t)) (jOne (grid1.coords t)) (bOne (grid1.coords t)) (jTwo (grid1.coords t)) (bTwo (grid1.coords t)) l (atCol t w) (atCol t v) (atCol t s) (atRow t o)
  else
    k1_pay6 (pass1 (grid1.coords t)) (jOne (grid1.coords t)) (bOne (grid1.coords t)) (jTwo (grid1.coords t)) (bTwo (grid1.coords t)) l (atCol t w) (atCol t v) (atCol t s) (atRow t o)

/-- What the body leaves in the second scratch column. -/
def nextO (t : Fin cfg1.N) (l : Vec F S1024x1024 .f32) (w v u s o : Vec F S4096x1 .f32) : Vec F S4096x1 .f32 :=
  putRow t o (blockO t l w v u s o)

/-- A buffer held whole whose memref reads `x`. -/
def holds (c : Dev nD) {sp : Space} {S : Shape} {e : EltTy} (M : Memref sig .tc sp S e) (x : S.Idx → Elt F e) : sProp 𝕄 :=
  iprop(∃ f : Bf (F := F) c M, ⌜M.view.read (Elt F) f = x⌝ ∗ pt c M f)

/-- The body at the first point of a row in the first pass: it starts the row of both scratch columns. -/
theorem run_first (c : Dev nD) (t : Fin cfg1.N) (M1 : Memref sig .tc .vmem S1024x1024 .f32) (h1 : M1.IsWhole)
    (M2 : Memref sig .tc .vmem S4096x1 .f32) (h2 : M2.IsWhole) (M3 : Memref sig .tc .vmem S4096x1 .f32) (h3 : M3.IsWhole)
    (M4 : Memref sig .tc .vmem S4096x1 .f32) (h4 : M4.IsWhole) (M5 : Memref sig .tc .vmem S1024x1 .f32) (h5 : M5.IsWhole)
    (M6 : Memref sig .tc .vmem S4096x1 .f32) (h6 : M6.IsWhole) (M7 : Memref sig .tc .vmem S4096x1 .f32) (h7 : M7.IsWhole)
    (l : Vec F S1024x1024 .f32) (w v u : Vec F S4096x1 .f32) (s o : Vec F S4096x1 .f32) (f5 : Bf (F := F) c M5)
    (ha : t.val < 16) (hb : t.val % 4 = 0)
    (E : Set ℕ) (Q : PUnit → sProp 𝕄) :
        iprop(holds c M1 l ∗ holds c M2 w ∗ holds c M3 v ∗ holds c M4 u ∗ pt c M5 f5 ∗ holds c M6 s ∗ holds c M7 o
          ∗ (iprop(holds c M1 l ∗ holds c M2 w ∗ holds c M3 v ∗ holds c M4 u ∗ holds c M5 (blockO t l w v u s o)
              ∗ holds c M6 (nextS t l w v s) ∗ holds c M7 (nextO t l w v u s o)) -∗ Q ⟨⟩))
          ⊢ wp frame (wpE (defs₀ (F := F)) Variants.none c none) E (cc1__sweep_kernel (grid1.coords t) M1 h1 M2 h2 M3 h3 M4 h4 M5 h5 M6 h6 M7 h7) Q := by
  have hc1 : k1_cond1 (grid1.coords t) = 1#1 := (cond1_iff t).mpr ⟨ha, hb⟩
  have hc2 : ¬ k1_cond2 (grid1.coords t) = 1#1 := fun h => ((cond2_iff t).mp h).2 hb
  have hc3 : ¬ k1_cond3 (grid1.coords t) = 1#1 := fun h => (cond3_iff t).mp h ha
  rw [cc1__sweep_kernel_eq_skeleton]
  unfold cc1__sweep_kernel_skel
  rw [part1_eq]
  simp only [pure_bind]
  rw [k1_part2_eq_skeleton]
  unfold k1_part2_skel holds
  simp only [dif_pos hc1, dif_neg hc2, dif_neg hc3]
  iintro ⟨⟨%f1, %e1, H1⟩, ⟨%f2, %e2, H2⟩, ⟨%f3, %e3, H3⟩, ⟨%f4, %e4, H4⟩, H5, ⟨%f6, %e6, H6⟩, ⟨%f7, %e7, H7⟩, Hk⟩
  subst e1 e2 e3 e4 e6 e7
  sl_exec!
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]
  · iexists _; isplitr; swap; (· iexact H5); ipureintro
    unfold run_first.sl.H5_1 blockO
    rw [View.read_writes_full]
    unfold run_first.sl.v75 run_first.sl.H7_1 View.readCov
    rw [View.readAt_unit _ _ _ (off5_eq t) (row_inb t), View.read_writes_cons_put _ _ _ _ _ (off2_eq t)]
    refine (VecWindow.window_put_same _ _ _ _ _).trans ?_
    rw [if_pos ha, if_pos hb]
    simp only [load_tile, load_col, load_row2]
  isplitl [H6]
  · iexists _; isplitr; swap; (· iexact H6); ipureintro
    unfold nextS
    rw [View.read_writes_cons_put _ _ _ _ _ (off2_eq t), View.writes_nil, if_pos ha, if_pos hb]
    simp only [load_tile, load_col, load_row2]
    rfl
  · iexists _; isplitr; swap; (· iexact H7); ipureintro
    unfold run_first.sl.H7_1 nextO blockO
    rw [View.read_writes_cons_put _ _ _ _ _ (off2_eq t), View.writes_nil]
    refine congrArg (putRow t _) ?_
    rw [if_pos ha, if_pos hb]
    simp only [load_tile, load_col, load_row2]

/-- The body at a later point of a row in the first pass: it adds to the row of both scratch columns. -/
theorem run_next (c : Dev nD) (t : Fin cfg1.N) (M1 : Memref sig .tc .vmem S1024x1024 .f32) (h1 : M1.IsWhole)
    (M2 : Memref sig .tc .vmem S4096x1 .f32) (h2 : M2.IsWhole) (M3 : Memref sig .tc .vmem S4096x1 .f32) (h3 : M3.IsWhole)
    (M4 : Memref sig .tc .vmem S4096x1 .f32) (h4 : M4.IsWhole) (M5 : Memref sig .tc .vmem S1024x1 .f32) (h5 : M5.IsWhole)
    (M6 : Memref sig .tc .vmem S4096x1 .f32) (h6 : M6.IsWhole) (M7 : Memref sig .tc .vmem S4096x1 .f32) (h7 : M7.IsWhole)
    (l : Vec F S1024x1024 .f32) (w v u : Vec F S4096x1 .f32) (s o : Vec F S4096x1 .f32) (f5 : Bf (F := F) c M5)
    (ha : t.val < 16) (hb : ¬ t.val % 4 = 0)
    (E : Set ℕ) (Q : PUnit → sProp 𝕄) :
        iprop(holds c M1 l ∗ holds c M2 w ∗ holds c M3 v ∗ holds c M4 u ∗ pt c M5 f5 ∗ holds c M6 s ∗ holds c M7 o
          ∗ (iprop(holds c M1 l ∗ holds c M2 w ∗ holds c M3 v ∗ holds c M4 u ∗ holds c M5 (blockO t l w v u s o)
              ∗ holds c M6 (nextS t l w v s) ∗ holds c M7 (nextO t l w v u s o)) -∗ Q ⟨⟩))
          ⊢ wp frame (wpE (defs₀ (F := F)) Variants.none c none) E (cc1__sweep_kernel (grid1.coords t) M1 h1 M2 h2 M3 h3 M4 h4 M5 h5 M6 h6 M7 h7) Q := by
  have hc1 : ¬ k1_cond1 (grid1.coords t) = 1#1 := fun h => hb ((cond1_iff t).mp h).2
  have hc2 : k1_cond2 (grid1.coords t) = 1#1 := (cond2_iff t).mpr ⟨ha, hb⟩
  have hc3 : ¬ k1_cond3 (grid1.coords t) = 1#1 := fun h => (cond3_iff t).mp h ha
  rw [cc1__sweep_kernel_eq_skeleton]
  unfold cc1__sweep_kernel_skel
  rw [part1_eq]
  simp only [pure_bind]
  rw [k1_part2_eq_skeleton]
  unfold k1_part2_skel holds
  simp only [dif_neg hc1, dif_pos hc2, dif_neg hc3]
  iintro ⟨⟨%f1, %e1, H1⟩, ⟨%f2, %e2, H2⟩, ⟨%f3, %e3, H3⟩, ⟨%f4, %e4, H4⟩, H5, ⟨%f6, %e6, H6⟩, ⟨%f7, %e7, H7⟩, Hk⟩
  subst e1 e2 e3 e4 e6 e7
  sl_exec!
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]
  · iexists _; isplitr; swap; (· iexact H5); ipureintro
    unfold run_next.sl.H5_1 blockO
    rw [View.read_writes_full]
    unfold run_next.sl.v75 run_next.sl.H7_1 View.readCov
    rw [View.readAt_unit _ _ _ (off5_eq t) (row_inb t), View.read_writes_cons_put _ _ _ _ _ (off3_eq t)]
    refine (VecWindow.window_put_same _ _ _ _ _).trans ?_
    rw [if_pos ha, if_neg hb]
    simp only [load_tile, load_col, load_row3]
  isplitl [H6]
  · iexists _; isplitr; swap; (· iexact H6); ipureintro
    unfold nextS
    rw [View.read_writes_cons_put _ _ _ _ _ (off3_eq t), View.writes_nil, if_pos ha, if_neg hb]
    simp only [load_tile, load_col, load_row3]
    rfl
  · iexists _; isplitr; swap; (· iexact H7); ipureintro
    unfold run_next.sl.H7_1 nextO blockO
    rw [View.read_writes_cons_put _ _ _ _ _ (off3_eq t), View.writes_nil]
    refine congrArg (putRow t _) ?_
    rw [if_pos ha, if_neg hb]
    simp only [load_tile, load_col, load_row3]

/-- The body at a point of the second pass: it adds to the row of the second scratch column. -/
theorem run_second (c : Dev nD) (t : Fin cfg1.N) (M1 : Memref sig .tc .vmem S1024x1024 .f32) (h1 : M1.IsWhole)
    (M2 : Memref sig .tc .vmem S4096x1 .f32) (h2 : M2.IsWhole) (M3 : Memref sig .tc .vmem S4096x1 .f32) (h3 : M3.IsWhole)
    (M4 : Memref sig .tc .vmem S4096x1 .f32) (h4 : M4.IsWhole) (M5 : Memref sig .tc .vmem S1024x1 .f32) (h5 : M5.IsWhole)
    (M6 : Memref sig .tc .vmem S4096x1 .f32) (h6 : M6.IsWhole) (M7 : Memref sig .tc .vmem S4096x1 .f32) (h7 : M7.IsWhole)
    (l : Vec F S1024x1024 .f32) (w v u : Vec F S4096x1 .f32) (s o : Vec F S4096x1 .f32) (f5 : Bf (F := F) c M5)
    (ha : ¬ t.val < 16)
    (E : Set ℕ) (Q : PUnit → sProp 𝕄) :
        iprop(holds c M1 l ∗ holds c M2 w ∗ holds c M3 v ∗ holds c M4 u ∗ pt c M5 f5 ∗ holds c M6 s ∗ holds c M7 o
          ∗ (iprop(holds c M1 l ∗ holds c M2 w ∗ holds c M3 v ∗ holds c M4 u ∗ holds c M5 (blockO t l w v u s o)
              ∗ holds c M6 (nextS t l w v s) ∗ holds c M7 (nextO t l w v u s o)) -∗ Q ⟨⟩))
          ⊢ wp frame (wpE (defs₀ (F := F)) Variants.none c none) E (cc1__sweep_kernel (grid1.coords t) M1 h1 M2 h2 M3 h3 M4 h4 M5 h5 M6 h6 M7 h7) Q := by
  have hc1 : ¬ k1_cond1 (grid1.coords t) = 1#1 := fun h => ha ((cond1_iff t).mp h).1
  have hc2 : ¬ k1_cond2 (grid1.coords t) = 1#1 := fun h => ha ((cond2_iff t).mp h).1
  have hc3 : k1_cond3 (grid1.coords t) = 1#1 := (cond3_iff t).mpr ha
  rw [cc1__sweep_kernel_eq_skeleton]
  unfold cc1__sweep_kernel_skel
  rw [part1_eq]
  simp only [pure_bind]
  rw [k1_part2_eq_skeleton]
  unfold k1_part2_skel holds
  simp only [dif_neg hc1, dif_neg hc2, dif_pos hc3]
  iintro ⟨⟨%f1, %e1, H1⟩, ⟨%f2, %e2, H2⟩, ⟨%f3, %e3, H3⟩, ⟨%f4, %e4, H4⟩, H5, ⟨%f6, %e6, H6⟩, ⟨%f7, %e7, H7⟩, Hk⟩
  subst e1 e2 e3 e4 e6 e7
  sl_exec!
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]
  · iexists _; isplitr; swap; (· iexact H5); ipureintro
    unfold run_second.sl.H5_1 blockO
    rw [View.read_writes_full]
    unfold run_second.sl.v75 run_second.sl.H7_1 View.readCov
    rw [View.readAt_unit _ _ _ (off5_eq t) (row_inb t), View.read_writes_cons_put _ _ _ _ _ (off4_eq t)]
    refine (VecWindow.window_put_same _ _ _ _ _).trans ?_
    rw [if_neg ha]
    simp only [load_tile, load_col, load_row4]
  isplitl [H6]
  · iexists _; isplitr; swap; (· iexact H6); ipureintro
    unfold nextS
    rw [if_neg ha]
  · iexists _; isplitr; swap; (· iexact H7); ipureintro
    unfold run_second.sl.H7_1 nextO blockO
    rw [View.read_writes_cons_put _ _ _ _ _ (off4_eq t), View.writes_nil]
    refine congrArg (putRow t _) ?_
    rw [if_neg ha]
    simp only [load_tile, load_col, load_row4]

/-- The body of the second kernel at a point: over the tile and the four columns it hands back what `nextS` and `nextO` say,
    and the result's block is the one it stored. -/
theorem run (c : Dev nD) (t : Fin cfg1.N) (M1 : Memref sig .tc .vmem S1024x1024 .f32) (h1 : M1.IsWhole)
    (M2 : Memref sig .tc .vmem S4096x1 .f32) (h2 : M2.IsWhole) (M3 : Memref sig .tc .vmem S4096x1 .f32) (h3 : M3.IsWhole)
    (M4 : Memref sig .tc .vmem S4096x1 .f32) (h4 : M4.IsWhole) (M5 : Memref sig .tc .vmem S1024x1 .f32) (h5 : M5.IsWhole)
    (M6 : Memref sig .tc .vmem S4096x1 .f32) (h6 : M6.IsWhole) (M7 : Memref sig .tc .vmem S4096x1 .f32) (h7 : M7.IsWhole)
    (l : Vec F S1024x1024 .f32) (w v u : Vec F S4096x1 .f32) (s o : Vec F S4096x1 .f32) (f5 : Bf (F := F) c M5)
    (E : Set ℕ) (Q : PUnit → sProp 𝕄) :
        iprop(holds c M1 l ∗ holds c M2 w ∗ holds c M3 v ∗ holds c M4 u ∗ pt c M5 f5 ∗ holds c M6 s ∗ holds c M7 o
          ∗ (iprop(holds c M1 l ∗ holds c M2 w ∗ holds c M3 v ∗ holds c M4 u ∗ holds c M5 (blockO t l w v u s o)
              ∗ holds c M6 (nextS t l w v s) ∗ holds c M7 (nextO t l w v u s o)) -∗ Q ⟨⟩))
          ⊢ wp frame (wpE (defs₀ (F := F)) Variants.none c none) E (cc1__sweep_kernel (grid1.coords t) M1 h1 M2 h2 M3 h3 M4 h4 M5 h5 M6 h6 M7 h7) Q := by
  by_cases ha : t.val < 16
  · by_cases hb : t.val % 4 = 0
    · exact run_first c t M1 h1 M2 h2 M3 h3 M4 h4 M5 h5 M6 h6 M7 h7 l w v u s o f5 ha hb E Q
    · exact run_next c t M1 h1 M2 h2 M3 h3 M4 h4 M5 h5 M6 h6 M7 h7 l w v u s o f5 ha hb E Q
  · exact run_second c t M1 h1 M2 h2 M3 h3 M4 h4 M5 h5 M6 h6 M7 h7 l w v u s o f5 ha E Q

end Cert.KernelIdeal.Sweep

end
-- ==== Proof.Project.lean ====
module

public import proofs.«01_k».proof.Proof.Sweep

/-!
The first kernel's body: one product of `x` with three columns made of the weights, its columns stored in three buffers.
-/

@[expose] public section

noncomputable section

namespace Cert.KernelIdeal.Project

open Cert.KernelIdeal Cert.KernelIdeal.Gen Cert.KernelIdeal.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole buffer reads its contents. -/
theorem load_x (M : Memref sig .tc .vmem S4096x256 .f32) (f : M.view.ty.Contents (Elt F))
    (inb : ∀ a, (![0, 0] : Fin 2 → ℕ) a + (![4096, 256] : Fin 2 → ℕ) a ≤ S4096x256.size a) :
    M.view.readAt (Elt F) (Rect.unit (s := S4096x256) ![0, 0] ![4096, 256] inb).toLoadRect f = M.view.read (Elt F) f :=
  View.readAt_full M.view f inb
/-- A load of a whole buffer of first-layer weights reads its contents. -/
theorem load_w (M : Memref sig .tc .vmem S256x256 .f32) (f : M.view.ty.Contents (Elt F))
    (inb : ∀ a, (![0, 0] : Fin 2 → ℕ) a + (![256, 256] : Fin 2 → ℕ) a ≤ S256x256.size a) :
    M.view.readAt (Elt F) (Rect.unit (s := S256x256) ![0, 0] ![256, 256] inb).toLoadRect f = M.view.read (Elt F) f :=
  View.readAt_full M.view f inb
/-- A load of a whole buffer of second-layer weights reads its contents. -/
theorem load_c (M : Memref sig .tc .vmem S256x1 .f32) (f : M.view.ty.Contents (Elt F))
    (inb : ∀ a, (![0, 0] : Fin 2 → ℕ) a + (![256, 1] : Fin 2 → ℕ) a ≤ S256x1.size a) :
    M.view.readAt (Elt F) (Rect.unit (s := S256x1) ![0, 0] ![256, 1] inb).toLoadRect f = M.view.read (Elt F) f :=
  View.readAt_full M.view f inb

/-- The body leaves the three columns of the product in the three result buffers, and its operands as they were. -/
theorem run (c : Dev nD) (M0 : Memref sig .tc .vmem S4096x256 .f32) (h0 : M0.IsWhole)
    (M1 : Memref sig .tc .vmem S256x256 .f32) (h1 : M1.IsWhole) (M2 : Memref sig .tc .vmem S256x256 .f32) (h2 : M2.IsWhole)
    (M3 : Memref sig .tc .vmem S256x1 .f32) (h3 : M3.IsWhole) (M4 : Memref sig .tc .vmem S256x1 .f32) (h4 : M4.IsWhole)
    (M5 : Memref sig .tc .vmem S4096x1 .f32) (h5 : M5.IsWhole) (M6 : Memref sig .tc .vmem S4096x1 .f32) (h6 : M6.IsWhole)
    (M7 : Memref sig .tc .vmem S4096x1 .f32) (h7 : M7.IsWhole)
    (x : Vec F S4096x256 .f32) (a b : Vec F S256x256 .f32) (p q : Vec F S256x1 .f32)
    (f5 : Bf (F := F) c M5) (f6 : Bf (F := F) c M6) (f7 : Bf (F := F) c M7) (E : Set ℕ) (Q : PUnit → sProp 𝕄) :
    iprop(holds c M0 x ∗ holds c M1 a ∗ holds c M2 b ∗ holds c M3 p ∗ holds c M4 q ∗ pt c M5 f5 ∗ pt c M6 f6 ∗ pt c M7 f7
      ∗ (iprop(holds c M0 x ∗ holds c M1 a ∗ holds c M2 b ∗ holds c M3 p ∗ holds c M4 q
          ∗ holds c M5 (k0_pay2 a b p q x) ∗ holds c M6 (k0_pay3 a b p q x) ∗ holds c M7 (k0_pay4 a b p q x)) -∗ Q ⟨⟩))
      ⊢ wp frame (wpE (defs₀ (F := F)) Variants.none c none) E (cc0__proj_kernel M0 h0 M1 h1 M2 h2 M3 h3 M4 h4 M5 h5 M6 h6 M7 h7) Q := by
  rw [cc0__proj_kernel_eq_skeleton]
  unfold cc0__proj_kernel_skel holds
  iintro ⟨⟨%f0, %e0, H0⟩, ⟨%f1, %e1, H1⟩, ⟨%f2, %e2, H2⟩, ⟨%f3, %e3, H3⟩, ⟨%f4, %e4, H4⟩, H5, H6, H7, Hk⟩
  subst e0 e1 e2 e3 e4
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]
  · iexists _; isplitr; swap; (· iexact H5); ipureintro
    unfold run.sl.H5_1
    rw [View.read_writes_full]
    simp only [load_x, load_w, load_c]
  isplitl [H6]
  · iexists _; isplitr; swap; (· iexact H6); ipureintro
    unfold run.sl.H6_1
    rw [View.read_writes_full]
    simp only [load_x, load_w, load_c]
  · iexists _; isplitr; swap; (· iexact H7); ipureintro
    unfold run.sl.H7_1
    rw [View.read_writes_full]
    simp only [load_x, load_w, load_c]

end Cert.KernelIdeal.Project

end
-- ==== Proof.Trace.lean ====
module

public import proofs.«01_k».proof.Proof.Sweep
public import Idealize.ShloMosaic.Lib.Pipeline.Value

/-!
The two scratch columns of the second kernel, point by point.

`product` is the tile's product with the two columns a point multiplies; `trace` runs all points from a fixed start.
The scratch columns hold unknown contents before the first point; `Agree` says that two columns have the same rows
where a row has already been started, and `agree_nextS`, `agree_nextO` that this lasts.  So what the kernel stores
does not depend on the unknown contents (`blockO_agree`).
-/

@[expose] public section

noncomputable section

namespace Cert.KernelIdeal.Sweep

open Cert.KernelIdeal Cert.KernelIdeal.Gen
open Idealize.ShloMosaic Idealize.SL.Sem

variable {F : FTy → Type} [FloatOps F]

/-- The tile's product with the point's two columns: a block of `w`, and a block of `v` plus `s` or zero. -/
def product (t : Fin cfg1.N) (l : Vec F S1024x1024 .f32) (wb vb sb : Vec F S1024x1 .f32) : FVec F S1024x2 .f32 :=
  matmul dot_S1024x1024_S1024x2_S1024x2_1_0_0_1_n_n none (truncf .bf16 l bitsLt_bf16_f32)
    (truncf .bf16 (concatenate S1024x2 1
      [⟨S1024x1, wb⟩, ⟨S1024x1, if uses t.val then addf vb sb else broadcast S1024x1 (Scalar.ofBits .f32 0x00000000#32)⟩]
      concatenates_S1024x1_S1024x1_S1024x2_d1) bitsLt_bf16_f32)
    (constant S1024x2 .f32 0x00000000#32)

/-- The product's first column. -/
def firstCol (p : FVec F S1024x2 .f32) : FVec F S1024x1 .f32 := extractStridedSlice S1024x1 ![0, 0] p slices_S1024x2_o0_0_S1024x1
/-- The product's second column. -/
def secondCol (p : FVec F S1024x2 .f32) : FVec F S1024x1 .f32 := extractStridedSlice S1024x1 ![0, 1] p slices_S1024x2_o0_1_S1024x1

/-- What the kernel multiplies at a point is `product`. -/
theorem pay1_eq (t : Fin cfg1.N) (l : Vec F S1024x1024 .f32) (wb vb sb : Vec F S1024x1 .f32) :
    k1_pay1 (pass1 (grid1.coords t)) (jOne (grid1.coords t)) (bOne (grid1.coords t)) (jTwo (grid1.coords t)) (bTwo (grid1.coords t)) l wb vb sb
      = product t l wb vb sb := by
  unfold k1_pay1 product
  dsimp only
  rw [uses_eq t, shapeCast_self, shapeCast_self]
  by_cases h : uses t.val
  · rw [if_pos h, if_pos h]; rfl
  · rw [if_neg h, if_neg h]; rfl

/-- The first scratch column after a point, in terms of the product. -/
theorem nextS_eq (t : Fin cfg1.N) (l : Vec F S1024x1024 .f32) (w v s : Vec F S4096x1 .f32) :
    nextS t l w v s = if t.val < 16 then
      putRow t s (if t.val % 4 = 0 then firstCol (product t l (atCol t w) (atCol t v) (atCol t s))
        else addf (atRow t s) (firstCol (product t l (atCol t w) (atCol t v) (atCol t s)))) else s := by
  unfold nextS k1_pay2 k1_pay4
  dsimp only
  rw [shapeCast_self, shapeCast_self, pay1_eq]
  rfl

/-- The block stored at a point, in terms of the product. -/
theorem blockO_eq (t : Fin cfg1.N) (l : Vec F S1024x1024 .f32) (w v u s o : Vec F S4096x1 .f32) :
    blockO t l w v u s o = addf (if t.val < 16 ∧ t.val % 4 = 0 then atRow t u else atRow t o)
      (secondCol (product t l (atCol t w) (atCol t v) (atCol t s))) := by
  unfold blockO k1_pay3 k1_pay5 k1_pay6
  dsimp only
  rw [shapeCast_self, shapeCast_self, shapeCast_self, pay1_eq]
  by_cases ha : t.val < 16
  · by_cases hb : t.val % 4 = 0
    · rw [if_pos ha, if_pos hb, if_pos ⟨ha, hb⟩]; rfl
    · rw [if_pos ha, if_neg hb, if_neg fun h => hb h.2]; rfl
  · rw [if_neg ha, if_neg fun h => ha h.1]; rfl

/-! ## Independence of the unknown contents -/

/-- Two columns have the same rows in the blocks started before point `n`. -/
def Agree (n : ℕ) (x y : Vec F S4096x1 .f32) : Prop :=
  ∀ k : S4096x1.Idx, 4 * ((k (0 : Fin 2)).val / 1024) < n → x k = y k

/-- Before the first point any two columns agree. -/
theorem agree_zero (x y : Vec F S4096x1 .f32) : Agree 0 x y := fun _ h => absurd h (Nat.not_lt_zero _)

/-- Columns that agree have the same block at a row that has been started. -/
theorem agree_window (n m : ℕ) (x y : Vec F S4096x1 .f32) (h : Agree n x y) (hm : 4 * m < n)
    (inb : ∀ a, (![1024 * m, 0] : Fin 2 → ℕ) a + S1024x1.size a ≤ S4096x1.size a) :
    VecWindow.window (s := S4096x1) x ![1024 * m, 0] S1024x1.size inb = VecWindow.window (s := S4096x1) y ![1024 * m, 0] S1024x1.size inb := by
  funext k
  refine h _ ?_
  have e : ((Rect.unit (s := S4096x1) ![1024 * m, 0] S1024x1.size inb).emb k (0 : Fin 2)).val = 1024 * m + 1 * (k (0 : Fin 2)).val := rfl
  have hk : (k (0 : Fin 2)).val < 1024 := (k (0 : Fin 2)).isLt
  rw [e]
  omega

/-- Unless a point is its row's first, its row has been started. -/
theorem row_started (t : Fin cfg1.N) (h : ¬ (t.val < 16 ∧ t.val % 4 = 0)) : 4 * row t.val < t.val := by
  have ht : t.val < 26 := t.isLt
  unfold row; split_ifs <;> omega

/-- A point that reads `s` reads a row that has been started. -/
theorem col_started (t : Fin cfg1.N) (h : uses t.val) : 4 * col t.val < t.val := by
  have ht : t.val < 26 := t.isLt
  unfold uses row col at *
  split_ifs at * <;> omega

/-- The product of a point is the same from columns `s` that agree. -/
theorem product_agree (t : Fin cfg1.N) (l : Vec F S1024x1024 .f32) (wb vb : Vec F S1024x1 .f32) (s s' : Vec F S4096x1 .f32)
    (h : Agree t.val s s') : product t l wb vb (atCol t s) = product t l wb vb (atCol t s') := by
  unfold product
  by_cases hu : uses t.val
  · rw [show atCol t s = atCol t s' from agree_window _ _ _ _ h (col_started t hu) _]
  · rw [if_neg hu, if_neg hu]

/-- The block stored at a point is the same over columns that agree. -/
theorem blockO_agree (t : Fin cfg1.N) (l : Vec F S1024x1024 .f32) (w v u s s' o o' : Vec F S4096x1 .f32)
    (hs : Agree t.val s s') (ho : Agree t.val o o') : blockO t l w v u s o = blockO t l w v u s' o' := by
  rw [blockO_eq, blockO_eq, product_agree t l _ _ s s' hs]
  by_cases hc : t.val < 16 ∧ t.val % 4 = 0
  · rw [if_pos hc, if_pos hc]
  · rw [if_neg hc, if_neg hc, show atRow t o = atRow t o' from agree_window _ _ _ _ ho (row_started t hc) _]

/-- After the same block is stored in both, the columns agree on one more point. -/
theorem agree_putRow (t : Fin cfg1.N) (x x' : Vec F S4096x1 .f32) (y : Vec F S1024x1 .f32) (h : Agree t.val x x') :
    Agree (t.val + 1) (putRow t x y) (putRow t x' y) := by
  intro k hk
  show (if h : ∀ a, (![1024 * row t.val, 0] : Fin 2 → ℕ) a ≤ (k a).val ∧ (k a).val < (![1024 * row t.val, 0] : Fin 2 → ℕ) a + S1024x1.size a then
      y (Rect.unitLocal (s := S4096x1) (off := ![1024 * row t.val, 0]) (size := S1024x1.size) k h) else x k)
    = (if h : ∀ a, (![1024 * row t.val, 0] : Fin 2 → ℕ) a ≤ (k a).val ∧ (k a).val < (![1024 * row t.val, 0] : Fin 2 → ℕ) a + S1024x1.size a then
      y (Rect.unitLocal (s := S4096x1) (off := ![1024 * row t.val, 0]) (size := S1024x1.size) k h) else x' k)
  by_cases hm : ∀ a, (![1024 * row t.val, 0] : Fin 2 → ℕ) a ≤ (k a).val ∧ (k a).val < (![1024 * row t.val, 0] : Fin 2 → ℕ) a + S1024x1.size a
  · rw [dif_pos hm, dif_pos hm]
  · rw [dif_neg hm, dif_neg hm]
    refine h k ?_
    by_contra hn
    refine hm (Fin.forall_fin_two.mpr ⟨?_, ?_⟩)
    · have ht : t.val < 26 := t.isLt
      have h4 : (k (0 : Fin 2)).val < 4096 := (k (0 : Fin 2)).isLt
      show 1024 * row t.val ≤ _ ∧ _ < 1024 * row t.val + 1024
      unfold row
      split_ifs <;> omega
    · have h1 : (k (1 : Fin 2)).val < 1 := (k (1 : Fin 2)).isLt
      exact ⟨Nat.zero_le _, by show _ < 0 + 1; omega⟩

/-- A point keeps the agreement of the columns `s`. -/
theorem agree_nextS (t : Fin cfg1.N) (l : Vec F S1024x1024 .f32) (w v s s' : Vec F S4096x1 .f32) (hs : Agree t.val s s') :
    Agree (t.val + 1) (nextS t l w v s) (nextS t l w v s') := by
  rw [nextS_eq, nextS_eq, product_agree t l _ _ s s' hs]
  by_cases ha : t.val < 16
  · rw [if_pos ha, if_pos ha]
    by_cases hb : t.val % 4 = 0
    · rw [if_pos hb, if_pos hb]; exact agree_putRow t _ _ _ hs
    · rw [if_neg hb, if_neg hb, show atRow t s = atRow t s' from agree_window _ _ _ _ hs (row_started t fun h => hb h.2) _]
      exact agree_putRow t _ _ _ hs
  · rw [if_neg ha, if_neg ha]
    intro k hk
    have h4 : (k (0 : Fin 2)).val < 4096 := (k (0 : Fin 2)).isLt
    exact hs k (by omega)

/-- A point keeps the agreement of the columns `o`. -/
theorem agree_nextO (t : Fin cfg1.N) (l : Vec F S1024x1024 .f32) (w v u s s' o o' : Vec F S4096x1 .f32)
    (hs : Agree t.val s s') (ho : Agree t.val o o') :
    Agree (t.val + 1) (nextO t l w v u s o) (nextO t l w v u s' o') := by
  unfold nextO
  rw [blockO_agree t l w v u s s' o o' hs ho]
  exact agree_putRow t _ _ _ ho

/-! ## All points -/

/-- The two scratch columns after `n` points, over the tiles `l` and the columns `w`, `v`, `u`, started from zero. -/
def trace (l : Fin cfg1.N → Vec F S1024x1024 .f32) (w v u : Vec F S4096x1 .f32) : ℕ → Vec F S4096x1 .f32 × Vec F S4096x1 .f32
  | 0 => (constant S4096x1 .f32 0x00000000#32, constant S4096x1 .f32 0x00000000#32)
  | n + 1 => if h : n < cfg1.N then
      (nextS ⟨n, h⟩ (l ⟨n, h⟩) w v (trace l w v u n).1, nextO ⟨n, h⟩ (l ⟨n, h⟩) w v u (trace l w v u n).1 (trace l w v u n).2)
    else trace l w v u n

/-- One more point of the trace. -/
theorem trace_succ (l : Fin cfg1.N → Vec F S1024x1024 .f32) (w v u : Vec F S4096x1 .f32) (t : Fin cfg1.N) :
    trace l w v u (t.val + 1) = (nextS t (l t) w v (trace l w v u t.val).1, nextO t (l t) w v u (trace l w v u t.val).1 (trace l w v u t.val).2) :=
  dif_pos t.isLt

end Cert.KernelIdeal.Sweep

end
-- ==== Proof.Regions.lean ====
module

public import proofs.«01_k».proof.Proof.Project
public import proofs.«01_k».proof.Proof.Trace

/-!
The two kernels as regions of the program: for each, what its arrays hold at entry, what its buffers hold after each
point, and the proof that one point of the body leaves them so.
-/

@[expose] public section

noncomputable section

namespace Cert.KernelIdeal.Regions

open Cert.KernelIdeal Cert.KernelIdeal.Gen Cert.KernelIdeal.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole memref owned at contents `x` is its buffer held at something that reads `x`. -/
theorem owns_eq_holds (c : Dev nD) {sp : Space} {S : Shape} {e : EltTy} (M : Memref sig .tc sp S e) (h : M.IsWhole)
    (x : S.Idx → Elt F e) : (owns (c : Thread nD τ) M fullShare x : sProp 𝕄) = holds c M x := by
  obtain ⟨b, rfl, rfl, rfl, h⟩ := h
  cases h
  unfold owns holds
  rw [show (Memref.whole b).view.set = Finset.univ from View.set_whole b]

/-- A buffer that holds a known array is owned with some contents. -/
theorem holds_of_pt (c : Dev nD) {sp : Space} {S : Shape} {e : EltTy} (M : Memref sig .tc sp S e) (x : S.Idx → Elt F e) :
    (holds c M x : sProp 𝕄) ⊢ iprop(∃ f, pt c M f) := by
  unfold holds
  iintro ⟨%f, -, H⟩
  iexists f; iexact H

/-- The second window of the second kernel is the whole column `w`. -/
theorem read_col1 (t : Fin cfg1.N) (f : (⟨S4096x1, .f32⟩ : BufTy).Contents (Elt F)) : ((cfg1.win 1).blk t).view.read (Elt F) f = f := by
  funext k
  exact congrArg f (funext fun a => Fin.ext (Window.rect_emb_val_of_index_zero (cfg1.win 1) t a (by match a with | 0 => rfl | 1 => rfl) k))
/-- The third window of the second kernel is the whole column `v`. -/
theorem read_col2 (t : Fin cfg1.N) (f : (⟨S4096x1, .f32⟩ : BufTy).Contents (Elt F)) : ((cfg1.win 2).blk t).view.read (Elt F) f = f := by
  funext k
  exact congrArg f (funext fun a => Fin.ext (Window.rect_emb_val_of_index_zero (cfg1.win 2) t a (by match a with | 0 => rfl | 1 => rfl) k))
/-- The fourth window of the second kernel is the whole column `u`. -/
theorem read_col3 (t : Fin cfg1.N) (f : (⟨S4096x1, .f32⟩ : BufTy).Contents (Elt F)) : ((cfg1.win 3).blk t).view.read (Elt F) f = f := by
  funext k
  exact congrArg f (funext fun a => Fin.ext (Window.rect_emb_val_of_index_zero (cfg1.win 3) t a (by match a with | 0 => rfl | 1 => rfl) k))

/-! ## The first kernel -/

section First

variable (V : (c : Dev nD) → (b : Ref sig .tc) → Buf (Elt F) ((c : Thread nD τ).loc b))

/-- What window `w`'s fetch at point `t` reads of the contents at entry. -/
abbrev blk0 (c : Dev nD) (w : Fin cfg0.W) (t : Fin cfg0.N) :=
  ((cfg0.win w).blk t).view.read (Elt F) (V c (Pipeline.arrRef spec0 w))

/-- The first region's data: its operands as fetched, its results the three columns of the product. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay2 (F := F) (blk0 V c 1 t) (blk0 V c 2 t) (blk0 V c 3 t) (blk0 V c 4 t) (blk0 V c 0 t)
    | ⟨6, _⟩ => k0_pay3 (F := F) (blk0 V c 1 t) (blk0 V c 2 t) (blk0 V c 3 t) (blk0 V c 4 t) (blk0 V c 0 t)
    | ⟨7, _⟩ => k0_pay4 (F := F) (blk0 V c 1 t) (blk0 V c 2 t) (blk0 V c 3 t) (blk0 V c 4 t) (blk0 V c 0 t)
  Φ _ := Pipeline.scopedRest (Ix := Unit) (Name := ℕ) (U := UR sig nD τ) (Lvl := ℕ) (Val := Elt F) spec0 c
  q _ := fullShare
  owed _ := 0

/-- The first kernel finds the features in its first buffer, -/
theorem before0_0 (c : Dev nD) (t : Fin cfg0.N) (d) : (dat0 V c).before 0 t d = blk0 V c 0 t :=
  Dat.before_in_eq_fetched (dat0 V c) 0 rfl (fun _ => rfl) (fun _ _ _ => rfl) (fun _ => rfl) t d
/-- the second operand in its second, -/
theorem before0_1 (c : Dev nD) (t : Fin cfg0.N) (d) : (dat0 V c).before 1 t d = blk0 V c 1 t :=
  Dat.before_in_eq_fetched (dat0 V c) 1 rfl (fun _ => rfl) (fun _ _ _ => rfl) (fun _ => rfl) t d
/-- the third in its third, -/
theorem before0_2 (c : Dev nD) (t : Fin cfg0.N) (d) : (dat0 V c).before 2 t d = blk0 V c 2 t :=
  Dat.before_in_eq_fetched (dat0 V c) 2 rfl (fun _ => rfl) (fun _ _ _ => rfl) (fun _ => rfl) t d
/-- the fourth in its fourth, -/
theorem before0_3 (c : Dev nD) (t : Fin cfg0.N) (d) : (dat0 V c).before 3 t d = blk0 V c 3 t :=
  Dat.before_in_eq_fetched (dat0 V c) 3 rfl (fun _ => rfl) (fun _ _ _ => rfl) (fun _ => rfl) t d
/-- and the fifth in its fifth. -/
theorem before0_4 (c : Dev nD) (t : Fin cfg0.N) (d) : (dat0 V c).before 4 t d = blk0 V c 4 t :=
  Dat.before_in_eq_fetched (dat0 V c) 4 rfl (fun _ => rfl) (fun _ _ _ => rfl) (fun _ => rfl) t d

/-- The first kernel's body at its one point. -/
theorem body0 (c : Dev nD) : BodyObligation (dat0 V c) (defs₀ (F := F)) Variants.none () Set.univ := fun t => by
  rw [bigSep_W0, bigSep_W0]
  simp only [owns_eq_holds c (stage0_0 0) (hstage0_0 0), owns_eq_holds c (stage0_1 0) (hstage0_1 0), owns_eq_holds c (stage0_2 0) (hstage0_2 0),
    owns_eq_holds c (stage0_3 0) (hstage0_3 0), owns_eq_holds c (stage0_4 0) (hstage0_4 0), owns_eq_holds c (stage0_5 0) (hstage0_5 0),
    owns_eq_holds c (stage0_6 0) (hstage0_6 0), owns_eq_holds c (stage0_7 0) (hstage0_7 0), before0_0, before0_1, before0_2, before0_3, before0_4]
  rw [show (dat0 V c).Φ t.succ = (dat0 V c).Φ t.castSucc from rfl,
    show (dat0 V c).owesAt () t.succ = (dat0 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  ihave H5' := (holds_of_pt c _ _) $$ H5
  ihave H6' := (holds_of_pt c _ _) $$ H6
  ihave H7' := (holds_of_pt c _ _) $$ H7
  icases H5' with ⟨%f5, H5⟩
  icases H6' with ⟨%f6, H6⟩
  icases H7' with ⟨%f7, H7⟩
  iapply (Project.run c (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0)
    (blk0 V c 0 t) (blk0 V c 1 t) (blk0 V c 2 t) (blk0 V c 3 t) (blk0 V c 4 t) f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end First

/-! ## The second kernel -/

section Second

variable (V : (c : Dev nD) → (b : Ref sig .tc) → Buf (Elt F) ((c : Thread nD τ).loc b))

/-- The tile of `L` fetched at point `t`. -/
def tile (c : Dev nD) (t : Fin cfg1.N) : Vec F S1024x1024 .f32 := ((cfg1.win 0).blk t).view.read (Elt F) (V c main_arg1)
/-- The column `w` that the second kernel reads. -/
def colW (c : Dev nD) : Vec F S4096x1 .f32 := V c main_v8_2
/-- The column `v` that the second kernel reads. -/
def colV (c : Dev nD) : Vec F S4096x1 .f32 := V c main_v8_1
/-- The column `u` that the second kernel reads. -/
def colU (c : Dev nD) : Vec F S4096x1 .f32 := V c main_v8_0
/-- The scratch columns after `n` points of the run started from zero. -/
abbrev tr (c : Dev nD) (n : ℕ) : Vec F S4096x1 .f32 × Vec F S4096x1 .f32 := trace (tile V c) (colW V c) (colV V c) (colU V c) n
/-- The block the result's buffer holds after point `t`. -/
def outBlock (c : Dev nD) (t : Fin cfg1.N) : Vec F S1024x1 .f32 :=
  blockO t (tile V c t) (colW V c) (colV V c) (colU V c) (tr V c t.val).1 (tr V c t.val).2

/-- The other kernel's buffers, held at something. -/
abbrev others (c : Dev nD) : sProp 𝕄 :=
  Pipeline.scopedRestBut (Ix := Unit) (Name := ℕ) (U := UR sig nD τ) (Lvl := ℕ) (Val := Elt F) spec1 c [cc1_scratch0, cc1_scratch1]

/-- Before point `n` the scratch columns agree with the run started from zero, on the rows started by then. -/
def inv (c : Dev nD) (n : ℕ) : sProp 𝕄 :=
  iprop(∃ s o, ⌜Agree n s (tr V c n).1 ∧ Agree n o (tr V c n).2⌝ ∗ holds c (Memref.whole cc1_scratch0) s ∗ holds c (Memref.whole cc1_scratch1) o ∗ others c)

/-- The second region's data: its operands as fetched, its result the block stored at each point. -/
def dat1 (c : Dev nD) : Dat τ (Elt F) Unit ℕ (UR sig nD τ) ℕ cfg1 c where
  A w := V c (Pipeline.arrRef spec1 w)
  after w t := match w with
    | ⟨0, _⟩ => tile V c t
    | ⟨1, _⟩ => colW V c
    | ⟨2, _⟩ => colV V c
    | ⟨3, _⟩ => colU V c
    | ⟨4, _⟩ => outBlock V c t
  Φ t := inv V c t.val
  q _ := fullShare
  owed _ := 0

/-- Before a point of the second kernel the first buffer holds the point's tile, -/
theorem before1_0 (c : Dev nD) (t : Fin cfg1.N) (d) : (dat1 V c).before 0 t d = tile V c t :=
  Dat.before_in_eq_fetched (dat1 V c) 0 rfl (fun _ => rfl) (fun _ _ _ => rfl) (fun _ => rfl) t d
/-- the second the column `w`, -/
theorem before1_1 (c : Dev nD) (t : Fin cfg1.N) (d) : (dat1 V c).before 1 t d = colW V c :=
  (Dat.before_in_eq_fetched (dat1 V c) 1 rfl (fun _ => rfl) (fun _ _ _ => rfl) (fun t => (read_col1 t (V c main_v8_2)).symm) t d).trans
    (read_col1 t (V c main_v8_2))
/-- the third the column `v`, -/
theorem before1_2 (c : Dev nD) (t : Fin cfg1.N) (d) : (dat1 V c).before 2 t d = colV V c :=
  (Dat.before_in_eq_fetched (dat1 V c) 2 rfl (fun _ => rfl) (fun _ _ _ => rfl) (fun t => (read_col2 t (V c main_v8_1)).symm) t d).trans
    (read_col2 t (V c main_v8_1))
/-- and the fourth the column `u`. -/
theorem before1_3 (c : Dev nD) (t : Fin cfg1.N) (d) : (dat1 V c).before 3 t d = colU V c :=
  (Dat.before_in_eq_fetched (dat1 V c) 3 rfl (fun _ => rfl) (fun _ _ _ => rfl) (fun t => (read_col3 t (V c main_v8_0)).symm) t d).trans
    (read_col3 t (V c main_v8_0))

/-- The second kernel's body at every point. -/
theorem body1 (c : Dev nD) : BodyObligation (dat1 V c) (defs₀ (F := F)) Variants.none () Set.univ := fun t => by
  rw [bigSep_W1, bigSep_W1]
  dsimp only
  simp only [owns_eq_holds c (stage1_0 (cfg1.slots t 0)) (hstage1_0 ((cfg1.slots t 0).cast nbuf1_0)), owns_eq_holds c (stage1_1 (cfg1.slots t 1)) (hstage1_1 ((cfg1.slots t 1).cast nbuf1_1)),
    owns_eq_holds c (stage1_2 (cfg1.slots t 2)) (hstage1_2 ((cfg1.slots t 2).cast nbuf1_2)), owns_eq_holds c (stage1_3 (cfg1.slots t 3)) (hstage1_3 ((cfg1.slots t 3).cast nbuf1_3)),
    owns_eq_holds c (stage1_4 (cfg1.slots t 4)) (hstage1_4 ((cfg1.slots t 4).cast nbuf1_4)), before1_0, before1_1, before1_2, before1_3]
  rw [show (dat1 V c).Φ t.castSucc = inv V c t.val from rfl, show (dat1 V c).Φ t.succ = inv V c (t.val + 1) from rfl,
    show (dat1 V c).owesAt () t.succ = (dat1 V c).owesAt () t.castSucc from rfl]
  unfold inv
  iintro ⟨⟨%s, %o, %hag, Hs, Ho, Hr⟩, HO, ⟨%d0, H0⟩, ⟨%d1, H1⟩, ⟨%d2, H2⟩, ⟨%d3, H3⟩, ⟨%d4, H4⟩⟩
  ihave H4' := (holds_of_pt c _ _) $$ H4
  icases H4' with ⟨%f4, H4⟩
  iapply (Sweep.run c t (stage1_0 (cfg1.slots t 0)) (hstage1_0 ((cfg1.slots t 0).cast nbuf1_0)) (stage1_1 (cfg1.slots t 1)) (hstage1_1 ((cfg1.slots t 1).cast nbuf1_1))
    (stage1_2 (cfg1.slots t 2)) (hstage1_2 ((cfg1.slots t 2).cast nbuf1_2)) (stage1_3 (cfg1.slots t 3)) (hstage1_3 ((cfg1.slots t 3).cast nbuf1_3))
    (stage1_4 (cfg1.slots t 4)) (hstage1_4 ((cfg1.slots t 4).cast nbuf1_4)) (Memref.whole cc1_scratch0) (Memref.isWhole_whole _)
    (Memref.whole cc1_scratch1) (Memref.isWhole_whole _) (tile V c t) (colW V c) (colV V c) (colU V c) s o f4 Set.univ _)
  isplitl [H0]; · iexact H0
  isplitl [H1]; · iexact H1
  isplitl [H2]; · iexact H2
  isplitl [H3]; · iexact H3
  isplitl [H4]; · iexact H4
  isplitl [Hs]; · iexact Hs
  isplitl [Ho]; · iexact Ho
  iintro ⟨H0, H1, H2, H3, H4, Hs, Ho⟩
  isplitl [Hs Ho Hr]
  · iexists _; iexists _
    isplitr; swap
    · isplitl [Hs]; · iexact Hs
      isplitl [Ho]; · iexact Ho
      iexact Hr
    ipureintro
    rw [show tr V c (t.val + 1) = _ from trace_succ _ _ _ _ t]
    exact ⟨agree_nextS t _ _ _ _ _ hag.1, agree_nextO t _ _ _ _ _ _ _ _ hag.1 hag.2⟩
  isplitl [HO]; · iexact HO
  isplitl [H0]; · iexact H0
  isplitl [H1]; · iexact H1
  isplitl [H2]; · iexact H2
  isplitl [H3]; · iexact H3
  rw [blockO_agree t _ _ _ _ _ _ _ _ hag.1 hag.2]
  iexact H4

/-- The buffers the second region does not stage: the two scratch columns and the other kernel's. -/
theorem rest_split (c : Dev nD) :
    (Pipeline.scopedRest (Ix := Unit) (Name := ℕ) (U := UR sig nD τ) (Lvl := ℕ) (Val := Elt F) spec1 c : sProp 𝕄)
      = iprop(((∃ f : Bf (F := F) c (Memref.whole cc1_scratch0), pt c (Memref.whole cc1_scratch0) f)
          ∗ (∃ f : Bf (F := F) c (Memref.whole cc1_scratch1), pt c (Memref.whole cc1_scratch1) f)) ∗ others c) :=
  Pipeline.scopedRest_split_of_list spec1 c [cc1_scratch0, cc1_scratch1] (by decide) (by decide)

/-- The second region's invariant is made of the scratch columns and the other kernel's buffers at entry, -/
theorem inv_enter (c : Dev nD) :
    (Pipeline.scopedRest (Ix := Unit) (Name := ℕ) (U := UR sig nD τ) (Lvl := ℕ) (Val := Elt F) spec1 c : sProp 𝕄) ⊢ inv V c 0 := by
  rw [rest_split]
  unfold inv
  iintro ⟨⟨⟨%f, Hs⟩, ⟨%g, Ho⟩⟩, Hr⟩
  iexists f; iexists g
  isplitr; · ipureintro; exact ⟨agree_zero _ _, agree_zero _ _⟩
  unfold holds
  isplitl [Hs]; · iexists f; isplitr; (· ipureintro; rfl); iexact Hs
  isplitl [Ho]; · iexists g; isplitr; (· ipureintro; rfl); iexact Ho
  iexact Hr

/-- and gives them back at the exit. -/
theorem inv_leave (c : Dev nD) (n : ℕ) :
    inv V c n ⊢ (Pipeline.scopedRest (Ix := Unit) (Name := ℕ) (U := UR sig nD τ) (Lvl := ℕ) (Val := Elt F) spec1 c : sProp 𝕄) := by
  rw [rest_split]
  unfold inv holds
  iintro ⟨%s, %o, -, ⟨%f, -, Hs⟩, ⟨%g, -, Ho⟩, Hr⟩
  isplitr [Hr]
  · isplitl [Hs]
    · iexists f; iexact Hs
    · iexists g; iexact Ho
  iexact Hr

end Second

end Cert.KernelIdeal.Regions

end
-- ==== Proof.Run.lean ====
module

public import proofs.«01_k».proof.Proof.Regions
public import proofs.«01_k».proof.Proof.Gen.KernelIdeal.Regions
public import Idealize.ShloMosaic.Lib.Pipeline.FrameTail
public import Idealize.ShloMosaic.Lib.Pipeline.RegionArraysS

/-!
The whole program: the slices and reshapes of the weights, then the two kernels.  Every execution ends with every
unscoped buffer at a stated content (`final`), and every semaphore counter at zero.
-/

@[expose] public section

noncomputable section

namespace Cert.KernelIdeal.Run

open Cert.KernelIdeal Cert.KernelIdeal.Gen Cert.KernelIdeal.Sweep Cert.KernelIdeal.Regions
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
/-- The level of every semaphore, of which no use is made. -/
abbrev lv : GSem nD τ sig → Unit → ℕ := fun _ _ => 0

variable (m : (ℓ : Loc nD τ sig) → Buf (Elt F) ℓ) (ρ : Dev nD → PrngReg)

/-- The buffers when the first kernel is entered, -/
def atFirst (c : Dev nD) : Valuation τ sig (Elt F) := StableHlo.after hostOps0 (V0 m c)
/-- the first kernel's data there, -/
def first (c : Dev nD) : Dat τ (Elt F) Unit ℕ (UR sig nD τ) ℕ cfg0 c := dat0 (fun c b => atFirst m c b) c
/-- the buffers when the second is entered, -/
def atSecond (c : Dev nD) : Valuation τ sig (Elt F) := Pipeline.afterRegion (first m c) (atFirst m c)
/-- the second kernel's data there, -/
def second (c : Dev nD) : Dat τ (Elt F) Unit ℕ (UR sig nD τ) ℕ cfg1 c := dat1 (fun c b => atSecond m c b) c
/-- and the buffers at the end. -/
def final (c : Dev nD) : Valuation τ sig (Elt F) := Pipeline.afterRegion (second m c) (atSecond m c)

/-- The data of the two regions. -/
def pdats : (p : Fin 2) → (c : Dev nD) → Dat τ (Elt F) Unit ℕ (UR sig nD τ) ℕ (cfgs p) c
  | ⟨0, _⟩ => first m
  | ⟨1, _⟩ => second m

/-- What rides beside the buffers: the core owes nothing. -/
abbrev R (c : Dev nD) : sProp 𝕄 := iprop(∃ W, owes (c : Thread nD τ) (0 : CellTallies nD τ sig Unit) W)

set_option backward.isDefEq.respectTransparency.types false in
/-- A region entered with every unscoped buffer at `W`, left with them at `W` updated by what the region writes. -/
def region (p : Fin 2) (kit : Pipeline.LaunchFacts (nD := nD) (τ := τ) cfgs p) (W : Dev nD → Valuation τ sig (Elt F))
    (hbody : ∀ c, BodyObligation (pdats m p c) (defs₀ (F := F)) Variants.none () Set.univ)
    (howed : ∀ c t, (pdats m p c).owed t = 0) (hshare : ∀ c w, (pdats m p c).share w = fullShare)
    (hrec : ∀ c, (pdats m p c).recorded 0 = Set.univ)
    (hA : ∀ c w, (pdats m p c).A w = W c (Proc.devRef .tc (Pipeline.arrRef (cfgs p).spec w)))
    (hin : ∀ c, (Pipeline.scopedRest (Ix := Unit) (Name := ℕ) (U := UR sig nD τ) (Lvl := ℕ) (Val := Elt F) (cfgs p).spec c : sProp 𝕄) ⊢ (pdats m p c).Φ 0)
    (hout : ∀ c, (pdats m p c).Φ (Fin.last (cfgs p).N) ⊢ (Pipeline.scopedRest (Ix := Unit) (Name := ℕ) (U := UR sig nD τ) (Lvl := ℕ) (Val := Elt F) (cfgs p).spec c : sProp 𝕄)) :
    Pipeline.RegionSeg (pcfgs (F := F)) adm (pdats m) () defs₀ Variants.none L lv p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (Pipeline.afterRegion (pdats m p c) (W c)) ∗ R c)
  X _ := BI.emp
  Y _ := BI.emp
  Z c := Pipeline.unscopedRest (Ix := Unit) (Name := ℕ) (U := UR sig nD τ) (Lvl := ℕ) (cfgs p).spec c (fun b => W c b)
  hentry c := by
    rw [Pipeline.ownSems0_none,
      show StableHlo.held (c : Thread nD τ) (Pipeline.ucRefs τ sig) (W c) = unscopedBufs c (fun b => W c b)
        from (Pipeline.unscopedBufs_held (Ix := Unit) (Name := ℕ) (U := UR sig nD τ) (Lvl := ℕ) c (W c)).symm]
    have hsplit := Pipeline.arrays_of_unscopedBufs (p := p) (pcfgs (F := F)) adm (pdats m) (kit.toP (Val := Elt F)).win (kit.toP (Val := Elt F)).arr_whole c
      (hshare c) (fun b => W c b) (fun w => hA c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W', HO⟩; iexists W'
      isplitr; · ipureintro; intro _ _; exact Or.inl (by rw [hrec c]; trivial)
      iexact HO
    isplitr; · iempintro
    iexact Hrest
  hin c := by
    refine BIBase.Entails.trans ?_ (hin c)
    iintro ⟨-, -, Hr⟩; iexact Hr
  hout c := by
    refine (hout c).trans ?_
    rw [Pipeline.ownSems0_none]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      (kit.toP (Val := Elt F)).win (kit.toP (Val := Elt F)).arr_whole c (pdats m) (hshare c)
      (fun b => W c b) (fun b => Pipeline.afterRegion (pdats m p c) (W c) b) ((pdats m p c).arrAt · (cfgs p).N)
      (fun w => (Pipeline.afterRegion_arr (pdats m p c) (W c) kit.win.arr_inj w).symm)
      (fun b hb => Pipeline.afterRegion_of_not_arr (pdats m p c) (W c)
        fun w h => hb (h ▸ Finset.mem_image.mpr ⟨w, Finset.mem_univ _, rfl⟩))
    rw [show StableHlo.held (c : Thread nD τ) (Pipeline.ucRefs τ sig) (Pipeline.afterRegion (pdats m p c) (W c))
        = unscopedBufs c (fun b => Pipeline.afterRegion (pdats m p c) (W c) b)
        from (Pipeline.unscopedBufs_held (Ix := Unit) (Name := ℕ) (U := UR sig nD τ) (Lvl := ℕ) c _).symm]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W', -, HO⟩; iexists W'; iexact HO

/-- The first kernel's region, -/
def reg0 : Pipeline.RegionSeg (pcfgs (F := F)) adm (pdats m) () defs₀ Variants.none L lv 0 :=
  region m 0 launch0 (atFirst m) (fun c => body0 _ c) (fun _ _ => rfl) (fun c => (pdats m 0 c).share_full fun _ => rfl) (fun _ => rfl)
    (fun c w => by dsimp only [pdats, first, dat0]; rfl) (fun _ => .rfl) (fun _ => .rfl)
/-- and the second's. -/
def reg1 : Pipeline.RegionSeg (pcfgs (F := F)) adm (pdats m) () defs₀ Variants.none L lv 1 :=
  region m 1 launch1 (atSecond m) (fun c => body1 _ c) (fun _ _ => rfl) (fun c => (pdats m 1 c).share_full fun _ => rfl) (fun _ => rfl)
    (fun c w => by dsimp only [pdats, second, dat1]; rfl) (fun c => inv_enter _ c) (fun c => inv_leave _ c _)

set_option backward.isDefEq.respectTransparency.types false in
/-- Every execution ends with every unscoped buffer at `final`, and every semaphore counter at zero. -/
theorem run : θ_run defs (onTc (τ := τ) (main (F := F))) ⟨m, fun _ => 0, ρ⟩ fun r =>
    (∀ (c : Dev nD) (b : Ref sig .tc), b.isScoped = false → r.2.mem ((c : Thread nD τ).loc b) = final m c b) ∧ r.2.sem = fun _ => 0 := by
  refine Pipeline.θ_run_regions_kit_dev_sems (pcfgs (F := F)) adm (pdats m) () cellOf_inj emb₁ defs₀ Variants.none L lv m ρ main
    (segs m Variants.none L lv (fun _ => R) () (pdats m) (reg0 m) (reg1 m))
    (fun c Q => by
      rewrite [main_chain c, Pipeline.Seg.run_eq_chain,
        show (segs m Variants.none L lv (fun _ => R) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (final m c))
    (hch := fun c => ⟨.rfl, .rfl, .rfl, .rfl⟩)
    (hinit := ?_)
    (QY := fun c s => ∀ b ∈ Pipeline.ucRefs τ sig, s.mem ((c.tc : Thread nD τ).1, b) = final m c b)
    (hfin := fun c s' => ?_)
    (hQ := fun _ h hz => ⟨fun c b hb => h c (Proc.devRef .tc b) (Pipeline.devRef_mem_ucRefs hb), funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c.tc : Thread nD τ).1, b)) (final m c) s') $$ [Hh HSI]
    · isplitl [Hh] <;> iassumption
    imodintro; iexact Hr

end Cert.KernelIdeal.Run

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite

/-!
The frames: each of the three programs runs, leaves its arguments as they were, and ends with every semaphore counter
at zero.  The kernel on words and the kernel on extended reals have the same text, so one run serves both; the
reference has no semaphore at all.
-/

@[expose] public section

noncomputable section

namespace Cert.Frames

open Idealize.ShloMosaic Idealize.SL.Sem Idealize.ShloMosaic.TcCoe
open Cert.KernelIdeal.Run

attribute [local instance] Cert.Kernel.Gen.facts Cert.KernelIdeal.Gen.facts Cert.ReferenceIdeal.Gen.facts Cert.Pre_finite.Gen.facts

variable {F : FTy → Type} [FloatOps F]

section Kernel

open Cert.KernelIdeal

variable (m : (ℓ : Loc nD τ sig) → Buf (Elt F) ℓ)

/-- A buffer that no host operation writes and neither kernel writes ends as it began. -/
theorem final_keeps (c : Dev nD) (r : Ref sig .tc) (h : r ∉ Gen.hostOps0_W)
    (h0 : ∀ w, Pipeline.arrRef spec0 w = r → (cfg0.win w).isOut = false)
    (h1 : ∀ w, Pipeline.arrRef spec1 w = r → (cfg1.win w).isOut = false) :
    final m c r = m ((c.tc : Thread nD τ).loc r) := by
  refine (Pipeline.afterRegion_keeps (second m c) (atSecond m c) Gen.launch1.win.arr_inj (fun _ => rfl) r h1).trans ?_
  refine (Pipeline.afterRegion_keeps (first m c) (atFirst m c) Gen.launch0.win.arr_inj (fun _ => rfl) r h0).trans ?_
  exact Gen.V1_of m c r h

/-- The features end as they began. -/
theorem final_arg0 (c : Dev nD) : final m c main_arg0 = m ((c.tc : Thread nD τ).loc main_arg0) :=
  final_keeps m c main_arg0 (by decide) (by decide) (by decide)
/-- The Laplacian ends as it began. -/
theorem final_arg1 (c : Dev nD) : final m c main_arg1 = m ((c.tc : Thread nD τ).loc main_arg1) :=
  final_keeps m c main_arg1 (by decide) (by decide) (by decide)
/-- The first layer's weights end as they began. -/
theorem final_arg2 (c : Dev nD) : final m c main_arg2 = m ((c.tc : Thread nD τ).loc main_arg2) :=
  final_keeps m c main_arg2 (by decide) (by decide) (by decide)
/-- The second layer's weights end as they began. -/
theorem final_arg3 (c : Dev nD) : final m c main_arg3 = m ((c.tc : Thread nD τ).loc main_arg3) :=
  final_keeps m c main_arg3 (by decide) (by decide) (by decide)

/-- The kernel leaves its result at `final`, its arguments as they were, and its semaphores at zero. -/
theorem kernel (ρ : Dev nD → PrngReg) :
    θ_run (Cert.KernelIdeal.defs (F := F)) (onTc (τ := τ) (Cert.KernelIdeal.main (F := F))) ⟨m, fun _ => 0, ρ⟩ fun r =>
      (∀ c : Dev nD,
        r.2.mem ((c.tc : Thread nD τ).loc main_v9) = final m c main_v9
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun _ h => ⟨fun c => ⟨h.1 c main_v9 rfl,
      (h.1 c main_arg0 rfl).trans (final_arg0 m c), (h.1 c main_arg1 rfl).trans (final_arg1 m c),
      (h.1 c main_arg2 rfl).trans (final_arg2 m c), (h.1 c main_arg3 rfl).trans (final_arg3 m c)⟩, h.2⟩)
    (Cert.KernelIdeal.Run.run m ρ)

end Kernel

/-- The two printings of the kernel have the same bodies, -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

/-- and so the same table of bodies and regions. -/
theorem defs_eq : Cert.Kernel.defs (F := F) = Cert.KernelIdeal.defs (F := F) := by
  show Pipeline.defs Cert.KernelIdeal.pcfgs Cert.Kernel.defs₀ = Pipeline.defs Cert.KernelIdeal.pcfgs Cert.KernelIdeal.defs₀
  rw [bodies_eq]

/-- The kernel on words has its frame. -/
theorem frame_kernel : Cert.quiescent_Kernel := fun m g _ => by
  rw [defs_eq]
  exact (θ_run _ _ _).mono (fun _ h => ⟨fun c => (h.1 c).2, h.2⟩) (kernel (F := Bits) m g)

/-- The kernel on extended reals has its frame. -/
theorem frame_kernelIdeal : Cert.quiescent_KernelIdeal := fun m g _ =>
  (θ_run _ _ _).mono (fun _ h => ⟨fun c => (h.1 c).2, h.2⟩) (kernel (F := Ideal) m g)

/-- The same under the value claim's precondition, which the frame does not need. -/
theorem frame_kernelIdeal_finite : Cert.quiescent_KernelIdeal_pre_finite := fun m g _ =>
  (θ_run _ _ _).mono (fun _ h => ⟨fun c => (h.1 c).2, h.2⟩) (kernel (F := Ideal) m g)

/-- The reference has no semaphore. -/
theorem no_semaphore (g : SemLoc Cert.ReferenceIdeal.sig) : False := by
  cases g with
  | reg s => exact s.elim0
  | dma s => exact s.elim0

/-- The reference has its frame. -/
theorem frame_referenceIdeal : Cert.quiescent_ReferenceIdeal := fun m g _ =>
  (θ_run _ _ _).mono (fun _ h => ⟨fun c => (h c).2, funext fun s => (no_semaphore s.2).elim⟩) (Cert.ReferenceIdeal.Value.run (F := Ideal) m g)

/-- The same under the value claim's precondition. -/
theorem frame_referenceIdeal_finite : Cert.quiescent_ReferenceIdeal_pre_finite := fun m g _ =>
  (θ_run _ _ _).mono (fun _ h => ⟨fun c => (h c).2, funext fun s => (no_semaphore s.2).elim⟩) (Cert.ReferenceIdeal.Value.run (F := Ideal) m g)

end Cert.Frames

end
-- ==== Proof.SweepValue.lean ====
module

public import proofs.«01_k».proof.Proof.Trace
public import Idealize.ShloMosaic.Lib.MatmulPlain
public import Idealize.ShloMosaic.Lib.ValueIdx

/-!
What the second kernel's scratch columns hold, over the extended reals.

Over a matrix `M`, of which the points' tiles are the blocks, the first pass makes the first column `M w` block by
block, and both passes together make the second column `u + M (v + M w)`.  `trace_value` says how many blocks of each
sum have been added before each point.  Only sums are regrouped, so nothing has to be finite.
-/

@[expose] public section

noncomputable section

namespace Cert.KernelIdeal.Sweep

open Cert.KernelIdeal Cert.KernelIdeal.Gen
open Idealize.ShloMosaic Idealize.ShloMosaic.ValueIdx Idealize.SL.Sem
open scoped BigOperators

/-- The entry of a column at a row number. -/
def entry (x : Vec Ideal S4096x1 .f32) (r : ℕ) : EReal := if h : r < 4096 then x (ix2 ⟨r, h⟩ 0) else 0

/-- Inside the column `entry` is its entry. -/
theorem entry_of_lt (x : Vec Ideal S4096x1 .f32) (r : ℕ) (h : r < 4096) : entry x r = x (ix2 ⟨r, h⟩ 0) := dif_pos h

/-- An entry of the block at the point's row. -/
theorem atRow_apply (t : Fin cfg1.N) (x : Vec Ideal S4096x1 .f32) (a : Fin 1024) : atRow t x (ix2 a 0) = entry x (1024 * row t.val + a.val) := by
  have hr := row_lt t.val
  rw [entry_of_lt x _ (by omega)]
  refine congrArg x (Shape.idx_ext₂ ?_ ?_)
  · show 1024 * row t.val + 1 * a.val = _
    rw [one_mul]
  · rfl

/-- An entry of the block at the point's column. -/
theorem atCol_apply (t : Fin cfg1.N) (x : Vec Ideal S4096x1 .f32) (a : Fin 1024) : atCol t x (ix2 a 0) = entry x (1024 * col t.val + a.val) := by
  have hr := col_lt t.val t.isLt
  rw [entry_of_lt x _ (by omega)]
  refine congrArg x (Shape.idx_ext₂ ?_ ?_)
  · show 1024 * col t.val + 1 * a.val = _
    rw [one_mul]
  · rfl

/-- Replacing a block replaces its rows, -/
theorem entry_putRow (t : Fin cfg1.N) (x : Vec Ideal S4096x1 .f32) (y : Vec Ideal S1024x1 .f32) (a : Fin 1024) :
    entry (putRow t x y) (1024 * row t.val + a.val) = y (ix2 a 0) := by
  rw [← atRow_apply t (putRow t x y) a]
  exact congrFun (VecWindow.window_put_same x _ _ (row_inb t) y) (ix2 a 0)

/-- and no others. -/
theorem entry_putRow_of_ne (t : Fin cfg1.N) (x : Vec Ideal S4096x1 .f32) (y : Vec Ideal S1024x1 .f32) (r : ℕ) (hr : r / 1024 ≠ row t.val) :
    entry (putRow t x y) r = entry x r := by
  unfold entry
  by_cases h : r < 4096
  · rw [dif_pos h, dif_pos h]
    show (if h : _ then _ else _) = _
    rw [dif_neg]
    intro hm
    have h0 : 1024 * row t.val ≤ r ∧ r < 1024 * row t.val + 1024 := hm (0 : Fin 2)
    omega
  · rw [dif_neg h, dif_neg h]

/-- The first column of a point's product: the tile times the block of `w`. -/
theorem firstCol_apply (t : Fin cfg1.N) (l : Vec Ideal S1024x1024 .f32) (wb vb sb : Vec Ideal S1024x1 .f32) (a : Fin 1024) :
    firstCol (product t l wb vb sb) (ix2 a 0) = ∑ k : Fin 1024, l (ix2 a k) * wb (ix2 k 0) := by
  unfold firstCol
  rw [extractStridedSlice_apply (k := (ix2 a 0 : S1024x2.Idx)) (hk := Fin.forall_fin_two.mpr ⟨(Nat.zero_add _).symm, rfl⟩)]
  refine (Ideal.matmul_plain_apply (M := 1024) (K := 1024) (N := 2) none _ _ _ a 0).trans ?_
  rw [constant_apply, Ideal.ofBits_zero_f32, zero_add]
  refine Finset.sum_congr rfl fun k _ => ?_
  rw [truncf_apply, truncf_apply]
  refine congrArg (l (ix2 a k) * ·) ?_
  exact concatenate_pair_apply_left (t := S1024x2) (s₁ := S1024x1) (s₂ := S1024x1) 1 _ _ _ (ix2 k 0) rfl (ix2 k 0) (Fin.forall_fin_two.mpr ⟨rfl, rfl⟩)

/-- The second column: the tile times the block of `v` plus `s`, or zero. -/
theorem secondCol_apply (t : Fin cfg1.N) (l : Vec Ideal S1024x1024 .f32) (wb vb sb : Vec Ideal S1024x1 .f32) (a : Fin 1024) :
    secondCol (product t l wb vb sb) (ix2 a 0) = if uses t.val then ∑ k : Fin 1024, l (ix2 a k) * (vb (ix2 k 0) + sb (ix2 k 0)) else 0 := by
  unfold secondCol
  rw [extractStridedSlice_apply (k := (ix2 a 1 : S1024x2.Idx)) (hk := Fin.forall_fin_two.mpr ⟨(Nat.zero_add _).symm, rfl⟩)]
  refine (Ideal.matmul_plain_apply (M := 1024) (K := 1024) (N := 2) none _ _ _ a 1).trans ?_
  rw [constant_apply, Ideal.ofBits_zero_f32, zero_add]
  have hk : ∀ (z : Vec Ideal S1024x1 .f32) (k : Fin 1024),
      concatenate S1024x2 1 [⟨S1024x1, wb⟩, ⟨S1024x1, z⟩] concatenates_S1024x1_S1024x1_S1024x2_d1 (ix2 k 1) = z (ix2 k 0) := fun z k =>
    concatenate_pair_apply_right (t := S1024x2) (s₁ := S1024x1) (s₂ := S1024x1) 1 wb z _ (ix2 k 1) rfl rfl (ix2 k 0)
      (Fin.forall_fin_two.mpr ⟨fun _ => rfl, fun h => absurd rfl h⟩) rfl
  by_cases hu : uses t.val
  · rw [if_pos hu, if_pos hu]
    refine Finset.sum_congr rfl fun k _ => ?_
    rw [truncf_apply, truncf_apply]
    exact congrArg (l (ix2 a k) * ·) (hk _ k)
  · rw [if_neg hu, if_neg hu]
    refine Finset.sum_eq_zero fun k _ => ?_
    rw [truncf_apply, truncf_apply]
    exact (congrArg (l (ix2 a k) * ·) ((hk _ k).trans Ideal.ofBits_zero_f32)).trans (mul_zero _)

/-! ## How many blocks have been added before a point -/

/-- Blocks added to row block `j` of the first column before point `n`. -/
def countS (j n : ℕ) : ℕ := min 4 (n - 4 * j)
/-- The first point of the second pass in row block `j`. -/
def start (j : ℕ) : ℕ := if j = 0 then 16 else if j = 1 then 20 else if j = 2 then 23 else 25
/-- Blocks added to row block `j` of the second column before point `n`. -/
def countO (j n : ℕ) : ℕ := if n ≤ 16 then min j (n - 4 * j) else j + min (4 - j) (n - start j)

/-- A point adds no block to another row that has been started. -/
theorem count_other : ∀ (t : Fin 26) (j : Fin 4), j.val ≠ row t.val → 4 * j.val < t.val + 1 →
    4 * j.val < t.val ∧ countS j.val (t.val + 1) = countS j.val t.val ∧ countO j.val (t.val + 1) = countO j.val t.val := by decide +kernel
/-- A point of the first pass adds to `s` the block of its own column, after those before it. -/
theorem countS_row : ∀ t : Fin 26, t.val < 16 → countS (row t.val) t.val = col t.val ∧ countS (row t.val) (t.val + 1) = col t.val + 1
    ∧ (t.val % 4 = 0 → col t.val = 0) := by decide +kernel
/-- A point of the second pass adds nothing to `s`. -/
theorem countS_late : ∀ (t : Fin 26) (j : Fin 4), ¬ t.val < 16 → countS j.val (t.val + 1) = countS j.val t.val := by decide +kernel
/-- A point that reads `v` plus `s` adds the block of its own column, and `s` is complete there. -/
theorem countO_uses : ∀ t : Fin 26, uses t.val → countO (row t.val) t.val = col t.val ∧ countO (row t.val) (t.val + 1) = col t.val + 1
    ∧ 4 * col t.val < t.val ∧ countS (col t.val) t.val = 4 := by decide +kernel
/-- A point that reads zero instead adds no block. -/
theorem countO_not_uses : ∀ t : Fin 26, ¬ uses t.val → countO (row t.val) (t.val + 1) = countO (row t.val) t.val := by decide +kernel
/-- Before a row's first point no block has been added. -/
theorem countO_first : ∀ t : Fin 26, t.val < 16 ∧ t.val % 4 = 0 → countO (row t.val) t.val = 0 := by decide +kernel

/-! ## The columns -/

section Value

variable (M : ℕ → ℕ → EReal)

/-- The product of row `r` of `M` with `y`, over column block `b`. -/
def part (y : ℕ → EReal) (r b : ℕ) : EReal := ∑ k : Fin 1024, M r (1024 * b + k.val) * y (1024 * b + k.val)
/-- The product of row `r` of `M` with `y`, block by block. -/
def dotRow (y : ℕ → EReal) (r : ℕ) : EReal := ∑ b ∈ Finset.range 4, part M y r b

variable (l : Fin cfg1.N → Vec Ideal S1024x1024 .f32) (w v u : Vec Ideal S4096x1 .f32)

/-- Before point `n`, in every row block started by then, the first column holds the blocks added so far of `M w`,
    and the second holds `u` plus the blocks added so far of `M (v + M w)`. -/
def Value (n : ℕ) (s o : Vec Ideal S4096x1 .f32) : Prop :=
  ∀ r < 4096, 4 * (r / 1024) < n →
    entry s r = ∑ b ∈ Finset.range (countS (r / 1024) n), part M (entry w) r b
    ∧ entry o r = entry u r + ∑ b ∈ Finset.range (countO (r / 1024) n), part M (fun k => entry v k + dotRow M (entry w) k) r b

/-- One point keeps the statement about the two columns. -/
theorem value_step (hl : ∀ t a b, l t (ix2 a b) = M (1024 * row t.val + a.val) (1024 * col t.val + b.val)) (t : Fin cfg1.N)
    (s o : Vec Ideal S4096x1 .f32) (ih : Value M w v u t.val s o) :
    Value M w v u (t.val + 1) (nextS t (l t) w v s) (nextO t (l t) w v u s o) := by
  intro r hr hn
  have ht : t.val < 26 := t.isLt
  rw [nextS_eq, nextO, blockO_eq]
  by_cases hj : r / 1024 = row t.val
  · obtain ⟨a, rfl⟩ : ∃ a : Fin 1024, r = 1024 * row t.val + a.val := ⟨⟨r % 1024, Nat.mod_lt _ (by norm_num)⟩, by show r = _ + r % 1024; omega⟩
    have hw : ∑ k : Fin 1024, l t (ix2 a k) * atCol t w (ix2 k 0) = part M (entry w) (1024 * row t.val + a.val) (col t.val) :=
      Finset.sum_congr rfl fun k _ => by rw [hl, atCol_apply]
    have hstart : ¬ (t.val < 16 ∧ t.val % 4 = 0) → _ := fun h => ih _ hr (by rw [hj]; exact row_started t h)
    rw [hj] at hstart ⊢
    constructor
    · by_cases ha : t.val < 16
      · obtain ⟨c0, c1, c2⟩ := countS_row t ha
        rw [if_pos ha, entry_putRow, c1, Finset.sum_range_succ]
        by_cases hb : t.val % 4 = 0
        · rw [if_pos hb, firstCol_apply, hw, c2 hb, Finset.sum_range_zero, zero_add]
        · rw [if_neg hb, addf_apply, firstCol_apply, hw, atRow_apply, (hstart fun h => hb h.2).1, c0]
      · rw [if_neg ha, (hstart fun h => ha h.1).1, countS_late t ⟨_, row_lt t.val⟩ ha]
    · rw [entry_putRow, addf_apply, secondCol_apply]
      have hbase : (if t.val < 16 ∧ t.val % 4 = 0 then atRow t u else atRow t o) (ix2 a 0)
          = entry u (1024 * row t.val + a.val) + ∑ b ∈ Finset.range (countO (row t.val) t.val), part M (fun k => entry v k + dotRow M (entry w) k) (1024 * row t.val + a.val) b := by
        by_cases hc : t.val < 16 ∧ t.val % 4 = 0
        · rw [if_pos hc, atRow_apply, countO_first t hc, Finset.sum_range_zero, add_zero]
        · rw [if_neg hc, atRow_apply, (hstart hc).2]
      rw [hbase]
      by_cases hu : uses t.val
      · obtain ⟨c0, c1, c2, c3⟩ := countO_uses t hu
        have hcol := col_lt t.val ht
        rw [if_pos hu, c1, Finset.sum_range_succ, ← c0, add_assoc]
        rw [c0]
        refine congrArg (fun z => entry u _ + (_ + z)) ?_
        refine Finset.sum_congr rfl fun k _ => ?_
        have hdiv : (1024 * col t.val + k.val) / 1024 = col t.val := by omega
        rw [hl, atCol_apply, atCol_apply, (ih (1024 * col t.val + k.val) (by omega) (by rw [hdiv]; exact c2)).1, hdiv, c3]
        rfl
      · rw [if_neg hu, add_zero, countO_not_uses t hu]
  · obtain ⟨h1, h2, h3⟩ := count_other t ⟨r / 1024, by omega⟩ hj hn
    obtain ⟨e1, e2⟩ := ih r hr h1
    rw [entry_putRow_of_ne t _ _ r hj, e2]
    refine ⟨?_, by rw [h3]⟩
    by_cases ha : t.val < 16
    · rw [if_pos ha, entry_putRow_of_ne t _ _ r hj, e1, h2]
    · rw [if_neg ha, e1, h2]

/-- The columns before every point. -/
theorem trace_value (hl : ∀ t a b, l t (ix2 a b) = M (1024 * row t.val + a.val) (1024 * col t.val + b.val)) :
    ∀ n ≤ 26, Value M w v u n (trace l w v u n).1 (trace l w v u n).2
  | 0, _ => fun _ _ h => absurd h (Nat.not_lt_zero _)
  | n + 1, h => by
    rw [trace_succ l w v u ⟨n, h⟩]
    exact value_step M l w v u hl ⟨n, h⟩ _ _ (trace_value hl n (Nat.le_of_succ_le h))

/-- After the last point of a row, all four blocks have been added. -/
theorem last_point : ∀ t : Fin 26, 18 < t.val → col t.val = 3 → countO (row t.val) (t.val + 1) = 4 ∧ 4 * row t.val < t.val + 1 := by decide +kernel

/-- The block stored at the last point of a row block: `u + M (v + M w)`. -/
theorem block_value (hl : ∀ t a b, l t (ix2 a b) = M (1024 * row t.val + a.val) (1024 * col t.val + b.val)) (t : Fin cfg1.N)
    (h : 18 < t.val) (hc : col t.val = 3) (a : Fin 1024) :
    blockO t (l t) w v u (trace l w v u t.val).1 (trace l w v u t.val).2 (ix2 a 0)
      = entry u (1024 * row t.val + a.val) + dotRow M (fun k => entry v k + dotRow M (entry w) k) (1024 * row t.val + a.val) := by
  have ht : t.val < 26 := t.isLt
  have hrow := row_lt t.val
  obtain ⟨c, hs⟩ := last_point t h hc
  have hd : (1024 * row t.val + a.val) / 1024 = row t.val := by omega
  have hv := (trace_value M l w v u hl (t.val + 1) ht (1024 * row t.val + a.val) (by omega) (by rw [hd]; exact hs)).2
  rw [trace_succ, nextO, entry_putRow, hd, c] at hv
  exact hv

end Value

end Cert.KernelIdeal.Sweep

end
-- ==== Proof.ResultValue.lean ====
module

public import proofs.«01_k».proof.Proof.Run
public import proofs.«01_k».proof.Proof.SweepValue
public import Idealize.ShloMosaic.Lib.Pipeline.ValueKit.Geometry

/-!
What the result array holds at the end, on the extended reals: row `r` is `u r + Σ L (v + Σ L w)`, where `u`, `v`, `w`
are the columns the first kernel left.  The result's row blocks are written back several times; only the write-backs
after point 18 matter, and each of those carries a finished block.
-/

@[expose] public section

noncomputable section

namespace Cert.KernelIdeal.Result

open Cert.KernelIdeal Cert.KernelIdeal.Gen Cert.KernelIdeal.Sweep Cert.KernelIdeal.Regions Cert.KernelIdeal.Run
open Idealize.ShloMosaic Idealize.ShloMosaic.TcCoe Idealize.ShloMosaic.ValueIdx
open Idealize.SL Idealize.SL.RA Idealize.SL.Sem
open Idealize.ShloMosaic.Pipeline (Dat Cfg Window)

/-- A square array as a function of two numbers, zero outside. -/
def mat (L : Vec Ideal S4096x4096 .f32) (a b : ℕ) : EReal :=
  if h : a < 4096 ∧ b < 4096 then L (ix2 ⟨a, h.1⟩ ⟨b, h.2⟩) else 0

/-- Inside the array `mat` is its entry. -/
theorem mat_of_lt (L : Vec Ideal S4096x4096 .f32) {a b : ℕ} (ha : a < 4096) (hb : b < 4096) :
    mat L a b = L (ix2 ⟨a, ha⟩ ⟨b, hb⟩) := dif_pos ⟨ha, hb⟩

/-- The column `u + L (v + L w)`. -/
def column (L : Vec Ideal S4096x4096 .f32) (w v u : Vec Ideal S4096x1 .f32) : Vec Ideal S4096x1 .f32 := fun i =>
  entry u (i 0).val + dotRow (mat L) (fun k => entry v k + dotRow (mat L) (entry w) k) (i 0).val

/-- The tile a point fetches is that of its row and column. -/
theorem tile_index : ∀ t : Fin cfg1.N, win1_0.index t = ![row t.val, col t.val] := by decide +kernel
/-- The result block of a point is that of its row. -/
theorem out_index : ∀ t : Fin cfg1.N, win1_4.index t = ![row t.val, 0] := by decide +kernel
/-- After point 18 a block is written back only from the last column of tiles, -/
theorem flush_late : ∀ t : Fin cfg1.N, 18 < t.val → win1_4.flush t = true → col t.val = 3 := by decide +kernel
/-- and every row block is. -/
theorem flush_row : ∀ j : Fin 4, ∃ t : Fin cfg1.N, 18 < t.val ∧ win1_4.flush t = true ∧ row t.val = j.val := by decide +kernel

section Second

variable (V : (c : Dev nD) → (b : Ref sig .tc) → Buf (Elt Ideal) ((c : Thread nD τ).loc b)) (c : Dev nD)

/-- The tile fetched at a point, by entry. -/
theorem tile_entry (t : Fin cfg1.N) (a b : Fin 1024) :
    tile V c t (ix2 a b) = mat (V c main_arg1) (1024 * row t.val + a.val) (1024 * col t.val + b.val) := by
  have hr := row_lt t.val
  have hc := col_lt t.val t.isLt
  rw [mat_of_lt _ (by omega : 1024 * row t.val + a.val < 4096) (by omega : 1024 * col t.val + b.val < 4096)]
  unfold tile
  refine congrArg (V c main_arg1) (Shape.idx_ext₂ ?_ ?_)
  · refine (Window.rect_emb_val (cfg1.win 0) t (ix2 a b) 0).trans ?_
    rw [show (cfg1.win 0).index t = ![row t.val, col t.val] from tile_index t]
    show row t.val * 1024 + a.val = 1024 * row t.val + a.val
    omega
  · refine (Window.rect_emb_val (cfg1.win 0) t (ix2 a b) 1).trans ?_
    rw [show (cfg1.win 0).index t = ![row t.val, col t.val] from tile_index t]
    show col t.val * 1024 + b.val = 1024 * col t.val + b.val
    omega

/-- The column the second kernel computes from what it finds. -/
abbrev res : Vec Ideal S4096x1 .f32 := column (V c main_arg1) (colW V c) (colV V c) (colU V c)

/-- A block written back after point 18 is that block of the column. -/
theorem flushed_late (t : Fin cfg1.N) (h : 18 < t.val) (hf : (cfg1.win 4).flush t = true) :
    (dat1 V c).flushed 4 t = ((cfg1.win 4).blk t).view.read (Elt Ideal) (res V c) := by
  funext y
  show outBlock V c t y = res V c (((cfg1.win 4).blk t).view.emb y)
  have e0 : ((((cfg1.win 4).blk t).view.emb y : S4096x1.Idx) 0).val = 1024 * row t.val + (y 0).val := by
    refine (Window.rect_emb_val (cfg1.win 4) t y 0).trans ?_
    rw [show (cfg1.win 4).index t = ![row t.val, 0] from out_index t]
    show row t.val * 1024 + (y 0).val = _
    omega
  rw [show (y : S1024x1.Idx) = ix2 (y 0) 0 from Shape.idx_ext₂ rfl (by have : ((y : S1024x1.Idx) 1).val < 1 := (y 1).isLt; show (y 1).val = 0; omega)] at *
  unfold res column
  rw [e0]
  exact block_value (mat (V c main_arg1)) (tile V c) _ _ _ (tile_entry V c) t h (flush_late t h hf) (y 0)

/-- Once a row block has been written back after point 18, it holds its block of the column from then on. -/
theorem arrAt_late (n : ℕ) : ∀ (t : Fin cfg1.N), 18 < t.val → t.val < n → (cfg1.win 4).flush t = true →
    ∀ i ∈ ((cfg1.win 4).blk t).view.set, (dat1 V c).arrAt 4 n i = res V c i := by
  induction n with
  | zero => exact fun t _ h => absurd h (Nat.not_lt_zero _)
  | succ n ih =>
    intro t h18 ht hf i hi
    rw [(dat1 V c).arrAt_succ_apply 4 n i]
    by_cases hn : n < cfg1.N
    · rw [dif_pos hn]
      by_cases hfn : (cfg1.win 4).flush ⟨n, hn⟩ = true
      · rw [if_pos hfn, flushed_late V c ⟨n, hn⟩ (by show 18 < n; omega) hfn]
        by_cases hin : i ∈ ((cfg1.win 4).blk ⟨n, hn⟩).view.set
        · rw [View.write_read_eq_piecewise, Finset.piecewise_eq_of_mem _ _ _ (by rw [View.setOn_univ]; exact hin)]
        · rw [View.write_of_not_mem _ _ _ (by rw [View.setOn_univ]; exact hin)]
          have htn : t.val ≠ n := fun e => hin ((Fin.ext e : t = ⟨n, hn⟩) ▸ hi)
          exact ih t h18 (by omega) hf i hi
      · rw [if_neg hfn]
        have htn : t.val ≠ n := fun e => hfn ((Fin.ext e : t = ⟨n, hn⟩) ▸ hf)
        exact ih t h18 (by omega) hf i hi
    · rw [dif_neg hn]
      exact ih t h18 (by have := t.isLt; omega) hf i hi

/-- Every entry of the result is written back after point 18. -/
theorem covered (i : S4096x1.Idx) : ∃ t : Fin cfg1.N, 18 < t.val ∧ (cfg1.win 4).flush t = true
    ∧ (i : (cfg1.win 4).arr.view.ty.Idx) ∈ ((cfg1.win 4).blk t).view.set := by
  have hi : (i 0).val < 4096 := (i 0).isLt
  obtain ⟨t, h, hf, hr⟩ := flush_row ⟨(i 0).val / 1024, by omega⟩
  refine ⟨t, h, hf, ?_⟩
  have hr' : row t.val = (i 0).val / 1024 := hr
  have h1 : (i 1).val < 1 := (i 1).isLt
  have := ((cfg1.win 4).blk t).view.emb_mem_set (ix2 (⟨(i 0).val % 1024, Nat.mod_lt _ (by decide)⟩ : Fin 1024) (0 : Fin 1))
  refine (congrArg (fun z : ((cfg1.win 4).blk t).view.ty.Idx => z ∈ ((cfg1.win 4).blk t).view.set) (?_ : i = _)).mpr this
  refine Shape.idx_ext₂ ?_ ?_
  · refine Eq.trans ?_ (Window.rect_emb_val (cfg1.win 4) t _ 0).symm
    rw [show (cfg1.win 4).index t = ![row t.val, 0] from out_index t]
    show (i 0).val = row t.val * 1024 + (i 0).val % 1024
    omega
  · refine Eq.trans ?_ (Window.rect_emb_val (cfg1.win 4) t _ 1).symm
    rw [show (cfg1.win 4).index t = ![row t.val, 0] from out_index t]
    show (i 1).val = 0 * 1 + 0
    omega

/-- The result array after the second kernel. -/
theorem arrAt_result : (dat1 V c).arrAt 4 cfg1.N = res V c := by
  funext i
  obtain ⟨t, h, hf, hi⟩ := covered i
  exact arrAt_late V c cfg1.N t h t.isLt hf i hi

end Second

variable (m : (ℓ : Loc nD τ sig) → Buf (Elt Ideal) ℓ) (c : Dev nD)

/-- The second kernel finds the array `L` as the program was given it. -/
theorem atSecond_arg1 : atSecond m c main_arg1 = m ((c.tc : Thread nD τ).loc main_arg1) :=
  (Pipeline.afterRegion_keeps (first m c) (atFirst m c) Gen.launch0.win.arr_inj (fun _ => rfl) main_arg1 (by decide)).trans
    (Gen.V1_of m c main_arg1 (by decide))

/-- The result at the end, from the columns the first kernel left. -/
theorem final_result : final m c main_v9
    = column (m ((c.tc : Thread nD τ).loc main_arg1)) (atSecond m c main_v8_2) (atSecond m c main_v8_1) (atSecond m c main_v8_0) := by
  refine (Pipeline.afterRegion_arr (second m c) (atSecond m c) Gen.launch1.win.arr_inj 4).trans ?_
  refine (arrAt_result (fun c b => atSecond m c b) c).trans ?_
  show column (atSecond m c main_arg1) _ _ _ = _
  rw [atSecond_arg1]
  rfl

end Cert.KernelIdeal.Result

end
-- ==== Proof.ColumnsValue.lean ====
module

public import proofs.«01_k».proof.Proof.ResultValue

/-!
What the first kernel leaves, on the extended reals: the three columns `u = x (A c)`, `v = x (B c + A d)` and
`w = x (B d)`, where `A` and `B` are the two slices of `W1` along its last axis and `c` and `d` those of `W2`.
-/

@[expose] public section

noncomputable section

namespace Cert.KernelIdeal.Columns

open Cert.KernelIdeal Cert.KernelIdeal.Gen Cert.KernelIdeal.Regions Cert.KernelIdeal.Run
open Idealize.ShloMosaic Idealize.ShloMosaic.TcCoe Idealize.ShloMosaic.ValueIdx
open Idealize.SL Idealize.SL.RA Idealize.SL.Sem
open Idealize.ShloMosaic.Pipeline (Dat Cfg Window)

/-! ## The three columns of the product -/

section Product

variable (A B : Vec Ideal S256x256 .f32) (p q : Vec Ideal S256x1 .f32) (x : Vec Ideal S4096x256 .f32)

/-- A weight times a column. -/
def dot (A : Vec Ideal S256x256 .f32) (p : Vec Ideal S256x1 .f32) (i : Fin 256) : EReal := ∑ o : Fin 256, A (ix2 i o) * p (ix2 o 0)

/-- The kernel's product of a weight and a column, by entry. -/
theorem matmul_entry (i : Fin 256) :
    matmul dot_S256x256_S256x1_S256x1_1_0_0_1_n_n (some .fp32) (shapeCast S256x256 A shapeCasts_S256x256_S256x256 : FVec Ideal S256x256 .f32)
      (shapeCast S256x1 p shapeCasts_S256x1_S256x1 : FVec Ideal S256x1 .f32) (constant S256x1 .f32 0x00000000#32) (ix2 i 0) = dot A p i := by
  rw [shapeCast_self, shapeCast_self]
  refine (Ideal.matmul_plain_apply (M := 256) (K := 256) (N := 1) _ _ _ _ i 0).trans ?_
  rw [constant_apply, Ideal.ofBits_zero_f32, zero_add]
  rfl

/-- Column `j` of the product of `x` with three columns side by side. -/
theorem product_entry (z : Fin 3 → Vec Ideal S256x1 .f32) (n : Fin 4096) (j : Fin 3) :
    matmul dot_S4096x256_S256x3_S4096x3_1_0_0_1_n_n none (truncf .bf16 x bitsLt_bf16_f32 : FVec Ideal S4096x256 .bf16)
      (truncf .bf16 (concatenate S256x3 1 [⟨S256x1, z 0⟩, ⟨S256x1, z 1⟩, ⟨S256x1, z 2⟩] concatenates_S256x1_S256x1_S256x1_S256x3_d1 : FVec Ideal S256x3 .f32)
        bitsLt_bf16_f32) (constant S4096x3 .f32 0x00000000#32) (ix2 n j) = ∑ i : Fin 256, x (ix2 n i) * z j (ix2 i 0) := by
  refine (Ideal.matmul_plain_apply (M := 4096) (K := 256) (N := 3) _ _ _ _ n j).trans ?_
  rw [constant_apply, Ideal.ofBits_zero_f32, zero_add]
  refine Finset.sum_congr rfl fun i _ => ?_
  rw [truncf_apply, truncf_apply]
  refine congrArg (x (ix2 n i) * ·) ?_
  match j with
  | 0 =>
    exact concatenate_apply_piece (t := S256x3) 1 [⟨S256x1, z 0⟩, ⟨S256x1, z 1⟩, ⟨S256x1, z 2⟩] _ (ix2 i 0) 0 (show 0 < 3 by decide)
      S256x1 (z 0) rfl rfl 0 rfl (ix2 i 0) (Fin.forall_fin_two.mpr ⟨fun _ => rfl, fun h => absurd rfl h⟩) rfl
  | 1 =>
    exact concatenate_apply_piece (t := S256x3) 1 [⟨S256x1, z 0⟩, ⟨S256x1, z 1⟩, ⟨S256x1, z 2⟩] _ (ix2 i 1) 1 (show 1 < 3 by decide)
      S256x1 (z 1) rfl rfl 1 rfl (ix2 i 0) (Fin.forall_fin_two.mpr ⟨fun _ => rfl, fun h => absurd rfl h⟩) rfl
  | 2 =>
    exact concatenate_apply_piece (t := S256x3) 1 [⟨S256x1, z 0⟩, ⟨S256x1, z 1⟩, ⟨S256x1, z 2⟩] _ (ix2 i 2) 2 (show 2 < 3 by decide)
      S256x1 (z 2) rfl rfl 2 rfl (ix2 i 0) (Fin.forall_fin_two.mpr ⟨fun _ => rfl, fun h => absurd rfl h⟩) rfl

/-- The three columns the kernel lays side by side. -/
def factor : Fin 3 → Fin 256 → EReal
  | 0, i => dot A p i
  | 1, i => dot B p i + dot A q i
  | 2, i => dot B q i

/-- The kernel's product, by entry. -/
theorem pay1_entry (n : Fin 4096) (j : Fin 3) :
    k0_pay1 (F := Ideal) A B p q x (ix2 n j) = ∑ i : Fin 256, x (ix2 n i) * factor A B p q j i := by
  unfold k0_pay1
  refine (product_entry x (fun
    | 0 => matmul dot_S256x256_S256x1_S256x1_1_0_0_1_n_n (some .fp32) (shapeCast S256x256 A shapeCasts_S256x256_S256x256 : FVec Ideal S256x256 .f32)
        (shapeCast S256x1 p shapeCasts_S256x1_S256x1 : FVec Ideal S256x1 .f32) (constant S256x1 .f32 0x00000000#32)
    | 1 => addf (matmul dot_S256x256_S256x1_S256x1_1_0_0_1_n_n (some .fp32) (shapeCast S256x256 B shapeCasts_S256x256_S256x256 : FVec Ideal S256x256 .f32)
        (shapeCast S256x1 p shapeCasts_S256x1_S256x1 : FVec Ideal S256x1 .f32) (constant S256x1 .f32 0x00000000#32))
        (matmul dot_S256x256_S256x1_S256x1_1_0_0_1_n_n (some .fp32) (shapeCast S256x256 A shapeCasts_S256x256_S256x256 : FVec Ideal S256x256 .f32)
        (shapeCast S256x1 q shapeCasts_S256x1_S256x1 : FVec Ideal S256x1 .f32) (constant S256x1 .f32 0x00000000#32))
    | 2 => matmul dot_S256x256_S256x1_S256x1_1_0_0_1_n_n (some .fp32) (shapeCast S256x256 B shapeCasts_S256x256_S256x256 : FVec Ideal S256x256 .f32)
        (shapeCast S256x1 q shapeCasts_S256x1_S256x1 : FVec Ideal S256x1 .f32) (constant S256x1 .f32 0x00000000#32)) n j).trans ?_
  refine Finset.sum_congr rfl fun i _ => congrArg (x (ix2 n i) * ·) ?_
  match j with
  | 0 => exact matmul_entry A p i
  | 1 => exact congrArg₂ (· + ·) (matmul_entry B p i) (matmul_entry A q i)
  | 2 => exact matmul_entry B q i

/-- The stored column `u`: the rows of `x` times `A p`. -/
theorem pay2_entry (n : Fin 4096) : k0_pay2 (F := Ideal) A B p q x (ix2 n 0) = ∑ i : Fin 256, x (ix2 n i) * dot A p i := by
  unfold k0_pay2
  rw [extractStridedSlice_apply (k := (ix2 n 0 : S4096x3.Idx)) (hk := Fin.forall_fin_two.mpr ⟨(Nat.zero_add _).symm, rfl⟩)]
  exact pay1_entry A B p q x n 0
/-- The stored column `v`: the rows of `x` times `B p + A q`. -/
theorem pay3_entry (n : Fin 4096) : k0_pay3 (F := Ideal) A B p q x (ix2 n 0) = ∑ i : Fin 256, x (ix2 n i) * (dot B p i + dot A q i) := by
  unfold k0_pay3
  rw [extractStridedSlice_apply (k := (ix2 n 1 : S4096x3.Idx)) (hk := Fin.forall_fin_two.mpr ⟨(Nat.zero_add _).symm, rfl⟩)]
  exact pay1_entry A B p q x n 1
/-- The stored column `w`: the rows of `x` times `B q`. -/
theorem pay4_entry (n : Fin 4096) : k0_pay4 (F := Ideal) A B p q x (ix2 n 0) = ∑ i : Fin 256, x (ix2 n i) * dot B q i := by
  unfold k0_pay4
  rw [extractStridedSlice_apply (k := (ix2 n 2 : S4096x3.Idx)) (hk := Fin.forall_fin_two.mpr ⟨(Nat.zero_add _).symm, rfl⟩)]
  exact pay1_entry A B p q x n 2

end Product

/-! ## The arrays after the first kernel -/

section First

variable (V : (c : Dev nD) → (b : Ref sig .tc) → Buf (Elt Ideal) ((c : Thread nD τ).loc b)) (c : Dev nD) (t : Fin cfg0.N)

/-- The block of the first operand is the whole of it. -/
theorem blk0_0 : blk0 V c 0 t = V c main_arg0 := by
  funext k
  exact congrArg (V c main_arg0) (funext fun a => Fin.ext (Window.rect_emb_val_of_index_zero (cfg0.win 0) t a (by match a with | 0 => rfl | 1 => rfl) k))
/-- The block of the second operand is the whole of it, -/
theorem blk0_1 : blk0 V c 1 t = V c main_v1 := by
  funext k
  exact congrArg (V c main_v1) (funext fun a => Fin.ext (Window.rect_emb_val_of_index_zero (cfg0.win 1) t a (by match a with | 0 => rfl | 1 => rfl) k))
/-- and so is the third's, -/
theorem blk0_2 : blk0 V c 2 t = V c main_v3 := by
  funext k
  exact congrArg (V c main_v3) (funext fun a => Fin.ext (Window.rect_emb_val_of_index_zero (cfg0.win 2) t a (by match a with | 0 => rfl | 1 => rfl) k))
/-- the fourth's, -/
theorem blk0_3 : blk0 V c 3 t = V c main_v5 := by
  funext k
  exact congrArg (V c main_v5) (funext fun a => Fin.ext (Window.rect_emb_val_of_index_zero (cfg0.win 3) t a (by match a with | 0 => rfl | 1 => rfl) k))
/-- and the fifth's. -/
theorem blk0_4 : blk0 V c 4 t = V c main_v7 := by
  funext k
  exact congrArg (V c main_v7) (funext fun a => Fin.ext (Window.rect_emb_val_of_index_zero (cfg0.win 4) t a (by match a with | 0 => rfl | 1 => rfl) k))

/-- The one point. -/
abbrev pt0 : Fin cfg0.N := ⟨0, by decide⟩

/-- The array `u` after the first kernel's one point. -/
theorem arrAt_u : (dat0 V c).arrAt 5 cfg0.N = k0_pay2 (F := Ideal) (V c main_v1) (V c main_v3) (V c main_v5) (V c main_v7) (V c main_arg0) := by
  refine (dat0 V c).arrAt_eq_of_after_last 5 pt0 (by decide +kernel) _ fun j => ?_
  show k0_pay2 (F := Ideal) (blk0 V c 1 pt0) (blk0 V c 2 pt0) (blk0 V c 3 pt0) (blk0 V c 4 pt0) (blk0 V c 0 pt0) j = _
  rw [blk0_0, blk0_1, blk0_2, blk0_3, blk0_4]; rfl
/-- The array `v` after the first kernel's one point. -/
theorem arrAt_v : (dat0 V c).arrAt 6 cfg0.N = k0_pay3 (F := Ideal) (V c main_v1) (V c main_v3) (V c main_v5) (V c main_v7) (V c main_arg0) := by
  refine (dat0 V c).arrAt_eq_of_after_last 6 pt0 (by decide +kernel) _ fun j => ?_
  show k0_pay3 (F := Ideal) (blk0 V c 1 pt0) (blk0 V c 2 pt0) (blk0 V c 3 pt0) (blk0 V c 4 pt0) (blk0 V c 0 pt0) j = _
  rw [blk0_0, blk0_1, blk0_2, blk0_3, blk0_4]; rfl
/-- The array `w` after the first kernel's one point. -/
theorem arrAt_w : (dat0 V c).arrAt 7 cfg0.N = k0_pay4 (F := Ideal) (V c main_v1) (V c main_v3) (V c main_v5) (V c main_v7) (V c main_arg0) := by
  refine (dat0 V c).arrAt_eq_of_after_last 7 pt0 (by decide +kernel) _ fun j => ?_
  show k0_pay4 (F := Ideal) (blk0 V c 1 pt0) (blk0 V c 2 pt0) (blk0 V c 3 pt0) (blk0 V c 4 pt0) (blk0 V c 0 pt0) j = _
  rw [blk0_0, blk0_1, blk0_2, blk0_3, blk0_4]; rfl

end First

/-! ## The weights the first kernel finds -/

section Weights

variable (m : (ℓ : Loc nD τ sig) → Buf (Elt Ideal) ℓ) (c : Dev nD)

/-- The first kernel reads `x` as it was given. -/
theorem atFirst_arg0 : atFirst m c main_arg0 = m ((c.tc : Thread nD τ).loc main_arg0) := Gen.V1_of m c main_arg0 (by decide)

/-- Its second operand is the first slice of the first layer's weights, -/
theorem atFirst_v1 : atFirst m c main_v1 = shapeCast S256x256 (extractStridedSlice S256x256x1 ![0, 0, 0]
    (m ((c.tc : Thread nD τ).loc main_arg2) : Vec Ideal S256x256x2 .f32) slices_S256x256x2_S256x256x1_0_0_0) shapeCasts_S256x256x1_S256x256 := by
  unfold atFirst hostOps0; after_results; rfl
/-- its third is their second slice, -/
theorem atFirst_v3 : atFirst m c main_v3 = shapeCast S256x256 (extractStridedSlice S256x256x1 ![0, 0, 1]
    (m ((c.tc : Thread nD τ).loc main_arg2) : Vec Ideal S256x256x2 .f32) slices_S256x256x2_S256x256x1_0_0_1) shapeCasts_S256x256x1_S256x256 := by
  unfold atFirst hostOps0; after_results; rfl
/-- its fourth is the first slice of the second layer's weights, -/
theorem atFirst_v5 : atFirst m c main_v5 = shapeCast S256x1 (extractStridedSlice S256x1x1 ![0, 0, 0]
    (m ((c.tc : Thread nD τ).loc main_arg3) : Vec Ideal S256x1x2 .f32) slices_S256x1x2_S256x1x1_0_0_0) shapeCasts_S256x1x1_S256x1 := by
  unfold atFirst hostOps0; after_results; rfl
/-- and its fifth is their second slice. -/
theorem atFirst_v7 : atFirst m c main_v7 = shapeCast S256x1 (extractStridedSlice S256x1x1 ![0, 0, 1]
    (m ((c.tc : Thread nD τ).loc main_arg3) : Vec Ideal S256x1x2 .f32) slices_S256x1x2_S256x1x1_0_0_1) shapeCasts_S256x1x1_S256x1 := by
  unfold atFirst hostOps0; after_results; rfl

/-- The slice `k` of `W1` laid out as a square, by entry. -/
theorem slice_square (k : Fin 2) (h : S256x256x2.Slices ![0, 0, k.val] S256x256x1) (W : Vec Ideal S256x256x2 .f32) (i o : Fin 256) :
    (shapeCast S256x256 (extractStridedSlice S256x256x1 ![0, 0, k.val] W h) shapeCasts_S256x256x1_S256x256 : Vec Ideal S256x256 .f32) (ix2 i o)
      = W (ix3 i o k) := by
  refine (shapeCast_apply _ _ (ix2 i o) (ix3 i o 0 : S256x256x1.Idx) ?_).trans ?_
  · refine (Shape.rowMajor_val_three _).trans (Eq.trans ?_ (Shape.rowMajor_val_two _).symm)
    show (i.val * 256 + o.val) * 1 + 0 = i.val * 256 + o.val
    omega
  · refine extractStridedSlice_apply _ _ _ _ _ fun a => ?_
    match a with
    | ⟨0, _⟩ => exact (Nat.zero_add _).symm
    | ⟨1, _⟩ => exact (Nat.zero_add _).symm
    | ⟨2, _⟩ => exact (Nat.add_zero _).symm

/-- The slice `k` of `W2` laid out as a column, by entry. -/
theorem slice_column (k : Fin 2) (h : S256x1x2.Slices ![0, 0, k.val] S256x1x1) (W : Vec Ideal S256x1x2 .f32) (o : Fin 256) :
    (shapeCast S256x1 (extractStridedSlice S256x1x1 ![0, 0, k.val] W h) shapeCasts_S256x1x1_S256x1 : Vec Ideal S256x1 .f32) (ix2 o 0)
      = W (ix3 o 0 k) := by
  refine (shapeCast_apply _ _ (ix2 o 0) (ix3 o 0 0 : S256x1x1.Idx) ?_).trans ?_
  · refine (Shape.rowMajor_val_three _).trans (Eq.trans ?_ (Shape.rowMajor_val_two _).symm)
    show (o.val * 1 + 0) * 1 + 0 = o.val * 1 + 0
    omega
  · refine extractStridedSlice_apply _ _ _ _ _ fun a => ?_
    match a with
    | ⟨0, _⟩ => exact (Nat.zero_add _).symm
    | ⟨1, _⟩ => exact (Nat.zero_add _).symm
    | ⟨2, _⟩ => exact (Nat.add_zero _).symm

/-- A slice of `W1` times a slice of `W2`. -/
def weight (W1 : Vec Ideal S256x256x2 .f32) (W2 : Vec Ideal S256x1x2 .f32) (k l : Fin 2) (i : Fin 256) : EReal :=
  ∑ o : Fin 256, W1 (ix3 i o k) * W2 (ix3 o 0 l)

/-- The product of two slices as the first kernel finds them. -/
theorem dot_slices (W1 : Vec Ideal S256x256x2 .f32) (W2 : Vec Ideal S256x1x2 .f32) (k l : Fin 2)
    (h1 : S256x256x2.Slices ![0, 0, k.val] S256x256x1) (h2 : S256x1x2.Slices ![0, 0, l.val] S256x1x1) (i : Fin 256) :
    dot (shapeCast S256x256 (extractStridedSlice S256x256x1 ![0, 0, k.val] W1 h1) shapeCasts_S256x256x1_S256x256)
      (shapeCast S256x1 (extractStridedSlice S256x1x1 ![0, 0, l.val] W2 h2) shapeCasts_S256x1x1_S256x1) i = weight W1 W2 k l i :=
  Finset.sum_congr rfl fun o _ => congrArg₂ (· * ·) (slice_square k h1 W1 i o) (slice_column l h2 W2 o)

/-- The features. -/
abbrev X : Vec Ideal S4096x256 .f32 := m ((c.tc : Thread nD τ).loc main_arg0)
/-- The Laplacian. -/
abbrev L : Vec Ideal S4096x4096 .f32 := m ((c.tc : Thread nD τ).loc main_arg1)
/-- The first layer's weights. -/
abbrev W1 : Vec Ideal S256x256x2 .f32 := m ((c.tc : Thread nD τ).loc main_arg2)
/-- The second layer's weights. -/
abbrev W2 : Vec Ideal S256x1x2 .f32 := m ((c.tc : Thread nD τ).loc main_arg3)

/-- The column `u` the first kernel leaves, -/
theorem u_entry (n : Fin 4096) : (atSecond m c main_v8_0 : Vec Ideal S4096x1 .f32) (ix2 n 0)
    = ∑ i : Fin 256, X m c (ix2 n i) * weight (W1 m c) (W2 m c) 0 0 i := by
  rw [show atSecond m c main_v8_0 = _ from (Pipeline.afterRegion_arr (first m c) (atFirst m c) Gen.launch0.win.arr_inj 5).trans
    (arrAt_u (fun c b => atFirst m c b) c)]
  refine (pay2_entry _ _ _ _ _ n).trans ?_
  rw [atFirst_arg0, atFirst_v1, atFirst_v5]
  exact Finset.sum_congr rfl fun i _ => congrArg _ (dot_slices _ _ 0 0 _ _ i)
/-- the column `v`, -/
theorem v_entry (n : Fin 4096) : (atSecond m c main_v8_1 : Vec Ideal S4096x1 .f32) (ix2 n 0)
    = ∑ i : Fin 256, X m c (ix2 n i) * (weight (W1 m c) (W2 m c) 1 0 i + weight (W1 m c) (W2 m c) 0 1 i) := by
  rw [show atSecond m c main_v8_1 = _ from (Pipeline.afterRegion_arr (first m c) (atFirst m c) Gen.launch0.win.arr_inj 6).trans
    (arrAt_v (fun c b => atFirst m c b) c)]
  refine (pay3_entry _ _ _ _ _ n).trans ?_
  rw [atFirst_arg0, atFirst_v1, atFirst_v3, atFirst_v5, atFirst_v7]
  exact Finset.sum_congr rfl fun i _ => congrArg _ (congrArg₂ (· + ·) (dot_slices _ _ 1 0 _ _ i) (dot_slices _ _ 0 1 _ _ i))
/-- and the column `w`. -/
theorem w_entry (n : Fin 4096) : (atSecond m c main_v8_2 : Vec Ideal S4096x1 .f32) (ix2 n 0)
    = ∑ i : Fin 256, X m c (ix2 n i) * weight (W1 m c) (W2 m c) 1 1 i := by
  rw [show atSecond m c main_v8_2 = _ from (Pipeline.afterRegion_arr (first m c) (atFirst m c) Gen.launch0.win.arr_inj 7).trans
    (arrAt_w (fun c b => atFirst m c b) c)]
  refine (pay4_entry _ _ _ _ _ n).trans ?_
  rw [atFirst_arg0, atFirst_v3, atFirst_v7]
  exact Finset.sum_congr rfl fun i _ => congrArg _ (dot_slices _ _ 1 1 _ _ i)

end Weights

end Cert.KernelIdeal.Columns

end
-- ==== Proof.ReferenceValue.lean ====
module

public import proofs.«01_k».proof.Proof.Gen.ReferenceIdeal.Run
public import Idealize.ShloMosaic.Lib.MatmulPlain
public import Idealize.ShloMosaic.Lib.StackMember
public import Idealize.ShloMosaic.Lib.ValueIdx

/-!
What the reference computes, on the extended reals, by entry: each layer takes a row of `h` beside the same row of
`L h`, and contracts the pair with the weights.
-/

@[expose] public section

noncomputable section

namespace Cert.ReferenceIdeal.Entries

open Cert.ReferenceIdeal Cert.ReferenceIdeal.Gen
open Idealize.ShloMosaic Idealize.ShloMosaic.ValueIdx
open scoped BigOperators

variable (L : FVec Ideal S4096x4096 .f32) (h g : FVec Ideal S4096x256 .f32)

/-- Two arrays side by side along a new last axis. -/
def pairUp : FVec Ideal S4096x256x2 .f32 :=
  concatenate S4096x256x2 2 [⟨S4096x256x1, broadcastInDim S4096x256x1 ![0, 1] bcast_S4096x256_S4096x256x1_0_1 h⟩,
    ⟨S4096x256x1, broadcastInDim S4096x256x1 ![0, 1] bcast_S4096x256_S4096x256x1_0_1 g⟩] concatenates_S4096x256x1_S4096x256x1_S4096x256x2_d2

/-- An array given a last axis of length one, by entry. -/
theorem widen_entry (n : Fin 4096) (i : Fin 256) :
    (broadcastInDim S4096x256x1 ![0, 1] bcast_S4096x256_S4096x256x1_0_1 h : FVec Ideal S4096x256x1 .f32) (ix3 n i 0) = h (ix2 n i) := by
  refine broadcastInDim_apply _ _ _ _ _ fun a => ?_
  match a with
  | ⟨0, _⟩ => rfl
  | ⟨1, _⟩ => rfl

/-- The stack's first term is the first array, -/
theorem pairUp_zero (n : Fin 4096) (i : Fin 256) : pairUp h g (ix3 n i 0) = h (ix2 n i) := by
  refine (concatenate_pair_apply_left (t := S4096x256x2) (s₁ := S4096x256x1) (s₂ := S4096x256x1) 2 _ _ _ (ix3 n i 0) rfl (ix3 n i 0) fun b => ?_).trans
    (widen_entry h n i)
  match b with
  | ⟨0, _⟩ => rfl
  | ⟨1, _⟩ => rfl
  | ⟨2, _⟩ => rfl

/-- and its second term is the second array. -/
theorem pairUp_one (n : Fin 4096) (i : Fin 256) : pairUp h g (ix3 n i 1) = g (ix2 n i) := by
  refine (concatenate_pair_apply_right (t := S4096x256x2) (s₁ := S4096x256x1) (s₂ := S4096x256x1) 2 _ _ _ (ix3 n i 1) rfl rfl (ix3 n i 0) (fun b hb => ?_) rfl).trans
    (widen_entry g n i)
  match b, hb with
  | ⟨0, _⟩, _ => rfl
  | ⟨1, _⟩, _ => rfl
  | ⟨2, _⟩, hb => exact absurd rfl hb

/-- The product with `L`, by entry. -/
theorem mulL_entry (n : Fin 4096) (i : Fin 256) :
    Host.dotGeneral dot_S4096x4096_S4096x256_S4096x256_1_0_0_1_n_n none L h (ix2 n i) = ∑ j : Fin 4096, L (ix2 n j) * h (ix2 j i) :=
  StackMember.dotGeneral_plain_apply (m := 4096) (n := 256) (k := 4096) none L h n i

/-- The contraction of the pair with the first weights, by entry. -/
theorem layer1_entry (z : FVec Ideal S4096x256x2 .f32) (W : FVec Ideal S256x256x2 .f32) (n : Fin 4096) (o : Fin 256) :
    Host.dotGeneral dot_S4096x256x2_S256x256x2_S4096x256_12_02_0_1_n_n none z W (ix2 n o)
      = ∑ i : Fin 256, ∑ k : Fin 2, z (ix3 n i k) * W (ix3 i o k) := by
  let D := dot_S4096x256x2_S256x256x2_S4096x256_12_02_0_1_n_n
  show FloatOps.dotGeneral D none _ z W (ix2 n o) = _
  rw [Ideal.dotGeneral_apply, sum_contr2 D 256 2 rfl rfl rfl]
  refine Finset.sum_congr rfl fun i _ => Finset.sum_congr rfl fun k _ => ?_
  have h0 := contrEquiv2_symm_val0 D 256 2 rfl rfl rfl (i, k)
  have h1 := contrEquiv2_symm_val1 D 256 2 rfl rfl rfl (i, k)
  have el : D.lhsIdx (ix2 n o) ((contrEquiv2 D 256 2 rfl rfl rfl).symm (i, k)) = ix3 n i k := by
    funext a; apply Fin.ext
    match a with
    | ⟨0, _⟩ => rfl
    | ⟨1, _⟩ => exact h0
    | ⟨2, _⟩ => exact h1
  have er : D.rhsIdx (ix2 n o) ((contrEquiv2 D 256 2 rfl rfl rfl).symm (i, k)) = ix3 i o k := by
    funext a; apply Fin.ext
    match a with
    | ⟨0, _⟩ => exact h0
    | ⟨1, _⟩ => rfl
    | ⟨2, _⟩ => exact h1
  rw [el, er]

/-- The contraction of the pair with the second weights, by entry. -/
theorem layer2_entry (z : FVec Ideal S4096x256x2 .f32) (W : FVec Ideal S256x1x2 .f32) (n : Fin 4096) :
    Host.dotGeneral dot_S4096x256x2_S256x1x2_S4096x1_12_02_0_1_n_n none z W (ix2 n 0)
      = ∑ i : Fin 256, ∑ k : Fin 2, z (ix3 n i k) * W (ix3 i 0 k) := by
  let D := dot_S4096x256x2_S256x1x2_S4096x1_12_02_0_1_n_n
  show FloatOps.dotGeneral D none _ z W (ix2 n 0) = _
  rw [Ideal.dotGeneral_apply, sum_contr2 D 256 2 rfl rfl rfl]
  refine Finset.sum_congr rfl fun i _ => Finset.sum_congr rfl fun k _ => ?_
  have h0 := contrEquiv2_symm_val0 D 256 2 rfl rfl rfl (i, k)
  have h1 := contrEquiv2_symm_val1 D 256 2 rfl rfl rfl (i, k)
  have el : D.lhsIdx (ix2 n 0) ((contrEquiv2 D 256 2 rfl rfl rfl).symm (i, k)) = ix3 n i k := by
    funext a; apply Fin.ext
    match a with
    | ⟨0, _⟩ => rfl
    | ⟨1, _⟩ => exact h0
    | ⟨2, _⟩ => exact h1
  have er : D.rhsIdx (ix2 n 0) ((contrEquiv2 D 256 2 rfl rfl rfl).symm (i, k)) = ix3 i 0 k := by
    funext a; apply Fin.ext
    match a with
    | ⟨0, _⟩ => exact h0
    | ⟨1, _⟩ => rfl
    | ⟨2, _⟩ => exact h1
  rw [el, er]

/-- A row beside the same row of `L h`. -/
def beside : FVec Ideal S4096x256x2 .f32 := pairUp h (Host.dotGeneral dot_S4096x4096_S4096x256_S4096x256_1_0_0_1_n_n none L h)

/-- The first layer, -/
def hidden (x : FVec Ideal S4096x256 .f32) (W1 : FVec Ideal S256x256x2 .f32) : FVec Ideal S4096x256 .f32 :=
  Host.dotGeneral dot_S4096x256x2_S256x256x2_S4096x256_12_02_0_1_n_n none (beside L x) W1
/-- and the result. -/
def result (x : FVec Ideal S4096x256 .f32) (W1 : FVec Ideal S256x256x2 .f32) (W2 : FVec Ideal S256x1x2 .f32) : FVec Ideal S4096x1 .f32 :=
  Host.dotGeneral dot_S4096x256x2_S256x1x2_S4096x1_12_02_0_1_n_n none (beside L (hidden L x W1)) W2

variable (x : FVec Ideal S4096x256 .f32) (W1 : FVec Ideal S256x256x2 .f32) (W2 : FVec Ideal S256x1x2 .f32)

/-- The first layer, by entry. -/
theorem hidden_entry (n : Fin 4096) (o : Fin 256) : hidden L x W1 (ix2 n o)
    = ∑ i : Fin 256, (x (ix2 n i) * W1 (ix3 i o 0) + (∑ j : Fin 4096, L (ix2 n j) * x (ix2 j i)) * W1 (ix3 i o 1)) := by
  refine (layer1_entry _ W1 n o).trans (Finset.sum_congr rfl fun i _ => ?_)
  rw [Fin.sum_univ_two]
  unfold beside
  rw [pairUp_zero, pairUp_one, mulL_entry]

/-- The result, by entry. -/
theorem result_entry (n : Fin 4096) : result L x W1 W2 (ix2 n 0)
    = ∑ o : Fin 256, (hidden L x W1 (ix2 n o) * W2 (ix3 o 0 0) + (∑ j : Fin 4096, L (ix2 n j) * hidden L x W1 (ix2 j o)) * W2 (ix3 o 0 1)) := by
  refine (layer2_entry _ W2 n).trans (Finset.sum_congr rfl fun i _ => ?_)
  rw [Fin.sum_univ_two]
  unfold beside
  rw [pairUp_zero, pairUp_one, mulL_entry]

end Cert.ReferenceIdeal.Entries

end
-- ==== Proof.FiniteEntries.lean ====
module

public import proofs.«01_k».proof.Pre_finite
public import proofs.«01_k».proof.Proof.Gen.Pre_finite
public import Idealize.ShloMosaic.Lib.ReduceAll
public import Idealize.ShloMosaic.PureOps.Ideal.Laws

/-!
What the precondition says: on the extended reals, an array all of whose absolute values compare below the infinity
has real entries.
-/

@[expose] public section

noncomputable section

namespace Cert.FiniteEntries

open Idealize.ShloMosaic
open Cert.Pre_finite Cert.Pre_finite.Facts

attribute [local instance] Cert.Pre_finite.Gen.facts

/-- An extended real whose absolute value compares below the word of the infinity is a real. -/
theorem real_of_lt (a : EReal) (h : FloatOps.cmpf (F := Ideal) (φ := .f32) .olt (FloatOps.hostAbsf (F := Ideal) (φ := .f32) a)
    (FloatOps.ofBits (F := Ideal) .f32 0x7F800000#32) = 1#1) : ∃ r : ℝ, a = r := by
  have htop : Ideal.ofBits .f32 0x7F800000#32 = ⊤ := by simp [Ideal.ofBits, Ideal.ieee]
  have h' : Ideal.cmp .olt (max a (-a)) (Ideal.ofBits .f32 0x7F800000#32) = 1#1 := h
  rw [htop] at h'
  induction a using EReal.rec with
  | bot => exact absurd h' (by simp [Ideal.cmp])
  | coe r => exact ⟨r, rfl⟩
  | top => exact absurd h' (by simp [Ideal.cmp])

/-- A shape without axes has one index. -/
instance : Subsingleton S_.Idx := ⟨fun _ _ => funext fun a => a.elim0⟩

variable (x : FVec Ideal S4096x256 .f32) (L : FVec Ideal S4096x4096 .f32) (W1 : FVec Ideal S256x256x2 .f32) (W2 : FVec Ideal S256x1x2 .f32)

/-- Under the precondition every entry of every argument is a real. -/
theorem entries_real (h : fn (F := Ideal) x L W1 W2 = fun _ => 1#1) :
    (∀ i, ∃ r : ℝ, x i = (r : EReal)) ∧ (∀ i, ∃ r : ℝ, L i = (r : EReal)) ∧ (∀ i, ∃ r : ℝ, W1 i = (r : EReal)) ∧ (∀ i, ∃ r : ℝ, W2 i = (r : EReal)) := by
  have h0 := congrFun h (fun a => a.elim0)
  unfold fn fn_part1 at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

end Cert.FiniteEntries

end
-- ==== Proof.RealSums.lean ====
module

public import proofs.«01_k».proof.Proof.SweepValue
public import Mathlib.Data.Matrix.Mul
public import Mathlib.Data.EReal.Operations

/-!
Sums of real entries in the extended reals are products of real matrices; and over the reals the kernel's way of
bracketing the two layers equals the reference's.
-/

@[expose] public section

noncomputable section

namespace Cert.RealSums

open scoped BigOperators Matrix
open Cert.KernelIdeal.Sweep

/-- A sum of reals is the same in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of real entries times a column of real entries. -/
theorem sum_mul_real {ι : Type*} [Fintype ι] (a b : ι → EReal) (f g : ι → ℝ) (ha : ∀ i, a i = f i) (hb : ∀ i, b i = g i) :
    ∑ i, a i * b i = ((∑ i, f i * g i : ℝ) : EReal) := by
  rw [coe_sum]
  exact Finset.sum_congr rfl fun i _ => by rw [ha, hb, EReal.coe_mul]

/-- Sums over consecutive blocks make one sum. -/
theorem sum_blocks (f : ℕ → EReal) (n : ℕ) : ∀ B : ℕ, ∑ b ∈ Finset.range B, ∑ k : Fin n, f (n * b + k.val) = ∑ j ∈ Finset.range (n * B), f j
  | 0 => by simp
  | B + 1 => by
    rw [Finset.sum_range_succ, sum_blocks f n B, Nat.mul_succ, Finset.sum_range_add,
      Finset.sum_range fun k => f (n * B + k)]

/-- A row times a column, block by block, is the row times the column. -/
theorem dotRow_eq (M : ℕ → ℕ → EReal) (y : ℕ → EReal) (r : ℕ) : dotRow M y r = ∑ j : Fin 4096, M r j.val * y j.val :=
  (sum_blocks (fun j => M r j * y j) 1024 4).trans (Finset.sum_range fun j => M r j * y j)

/-- The kernel's bracketing of the two layers and the reference's, over the reals. -/
theorem layers {N I : Type*} [Fintype N] [Fintype I] (X : Matrix N I ℝ) (L : Matrix N N ℝ) (A B : Matrix I I ℝ) (c d : I → ℝ) :
    X *ᵥ (A *ᵥ c) + L *ᵥ (X *ᵥ (B *ᵥ c + A *ᵥ d) + L *ᵥ (X *ᵥ (B *ᵥ d)))
      = (X * A + (L * X) * B) *ᵥ c + (L * (X * A + (L * X) * B)) *ᵥ d := by
  simp only [Matrix.mulVec_add, Matrix.add_mulVec, Matrix.mul_add, Matrix.mulVec_mulVec, Matrix.mul_assoc]
  abel

end Cert.RealSums

end
-- ==== Proof.Equation.lean ====
module

public import proofs.«01_k».proof.Proof.ColumnsValue
public import proofs.«01_k».proof.Proof.ReferenceValue
public import proofs.«01_k».proof.Proof.FiniteEntries
public import proofs.«01_k».proof.Proof.RealSums
public import proofs.«01_k».proof.Proof.Frames

/-!
The equation: from finite arguments the kernel's result is the reference's, entry by entry, on the extended reals.
-/

@[expose] public section

noncomputable section

namespace Cert.Equation

open Idealize.ShloMosaic Idealize.ShloMosaic.TcCoe Idealize.ShloMosaic.ValueIdx Idealize.SL.Sem
open Cert.RealSums Cert.KernelIdeal.Sweep Cert.KernelIdeal.Run Cert.KernelIdeal.Result Cert.KernelIdeal.Columns
open Cert.ReferenceIdeal.Entries
open scoped BigOperators Matrix

attribute [local instance] Cert.Kernel.Gen.facts Cert.KernelIdeal.Gen.facts Cert.ReferenceIdeal.Gen.facts Cert.Pre_finite.Gen.facts

/-- The arguments, with the real arrays their entries are. -/
structure Reals (x : FVec Ideal ⟨2, ![4096, 256]⟩ .f32) (L : FVec Ideal ⟨2, ![4096, 4096]⟩ .f32) (W1 : FVec Ideal ⟨3, ![256, 256, 2]⟩ .f32)
    (W2 : FVec Ideal ⟨3, ![256, 1, 2]⟩ .f32) where
  X : Matrix (Fin 4096) (Fin 256) ℝ
  M : Matrix (Fin 4096) (Fin 4096) ℝ
  W : Fin 2 → Matrix (Fin 256) (Fin 256) ℝ
  p : Fin 2 → Fin 256 → ℝ
  hX : ∀ n i, x (ix2 n i) = (X n i : EReal)
  hM : ∀ n j, L (ix2 n j) = (M n j : EReal)
  hW : ∀ k i o, W1 (ix3 i o k) = (W k i o : EReal)
  hp : ∀ k o, W2 (ix3 o 0 k) = (p k o : EReal)

/-- Under the precondition the arguments have real entries. -/
theorem reals_of_pre (x : FVec Ideal ⟨2, ![4096, 256]⟩ .f32) (L : FVec Ideal ⟨2, ![4096, 4096]⟩ .f32) (W1 : FVec Ideal ⟨3, ![256, 256, 2]⟩ .f32)
    (W2 : FVec Ideal ⟨3, ![256, 1, 2]⟩ .f32) (h : Cert.Pre_finite.fn (F := Ideal) x L W1 W2 = fun _ => 1#1) : Nonempty (Reals x L W1 W2) := by
  obtain ⟨h1, h2, h3, h4⟩ := Cert.FiniteEntries.entries_real x L W1 W2 h
  choose X hX using h1
  choose M hM using h2
  choose W hW using h3
  choose p hp using h4
  exact ⟨⟨fun n i => X (ix2 n i), fun n j => M (ix2 n j), fun k i o => W (ix3 i o k), fun k o => p (ix3 o 0 k),
    fun n i => hX _, fun n j => hM _, fun k i o => hW _, fun k o => hp _⟩⟩

section Kernel

variable (m : (ℓ : Loc Cert.KernelIdeal.nD Cert.KernelIdeal.τ Cert.KernelIdeal.sig) → Buf (Elt Ideal) ℓ) (c : Dev Cert.KernelIdeal.nD)
variable (R : Reals (X m c) (L m c) (W1 m c) (W2 m c))

/-- A slice of the first weights times a slice of the second. -/
theorem weight_real (k l : Fin 2) (i : Fin 256) : weight (W1 m c) (W2 m c) k l i = ((R.W k *ᵥ R.p l) i : ℝ) :=
  sum_mul_real _ _ _ _ (fun o => R.hW k i o) (fun o => R.hp l o)

/-- The column `u` holds the real numbers of the matrix product. -/
theorem u_real (n : Fin 4096) : entry (atSecond m c Cert.KernelIdeal.main_v8_0) n.val = ((R.X *ᵥ (R.W 0 *ᵥ R.p 0)) n : ℝ) := by
  rw [entry_of_lt _ _ n.isLt]
  exact (u_entry m c n).trans (sum_mul_real _ _ _ _ (fun i => R.hX n i) (fun i => weight_real m c R 0 0 i))
/-- The column `v` holds the real numbers of the matrix product. -/
theorem v_real (n : Fin 4096) : entry (atSecond m c Cert.KernelIdeal.main_v8_1) n.val = ((R.X *ᵥ (R.W 1 *ᵥ R.p 0 + R.W 0 *ᵥ R.p 1)) n : ℝ) := by
  rw [entry_of_lt _ _ n.isLt]
  exact (v_entry m c n).trans (sum_mul_real _ _ _ _ (fun i => R.hX n i) (fun i => by
    rw [weight_real m c R 1 0 i, weight_real m c R 0 1 i, Pi.add_apply, EReal.coe_add]))
/-- The column `w` holds the real numbers of the matrix product. -/
theorem w_real (n : Fin 4096) : entry (atSecond m c Cert.KernelIdeal.main_v8_2) n.val = ((R.X *ᵥ (R.W 1 *ᵥ R.p 1)) n : ℝ) := by
  rw [entry_of_lt _ _ n.isLt]
  exact (w_entry m c n).trans (sum_mul_real _ _ _ _ (fun i => R.hX n i) (fun i => weight_real m c R 1 1 i))

/-- A row of `L` times a column of real entries. -/
theorem row_real (y : ℕ → EReal) (z : Fin 4096 → ℝ) (h : ∀ j : Fin 4096, y j.val = (z j : EReal)) (n : Fin 4096) :
    dotRow (mat (L m c)) y n.val = ((R.M *ᵥ z) n : ℝ) := by
  rw [dotRow_eq]
  exact sum_mul_real _ _ _ _ (fun j => (mat_of_lt _ n.isLt j.isLt).trans (R.hM n j)) h

/-- The kernel's result, by entry. -/
theorem kernel_real (n : Fin 4096) : (final m c Cert.KernelIdeal.main_v9 : Vec Ideal Cert.KernelIdeal.S4096x1 .f32) (ix2 n 0)
    = (((R.X *ᵥ (R.W 0 *ᵥ R.p 0) + R.M *ᵥ (R.X *ᵥ (R.W 1 *ᵥ R.p 0 + R.W 0 *ᵥ R.p 1) + R.M *ᵥ (R.X *ᵥ (R.W 1 *ᵥ R.p 1)))) n : ℝ) : EReal) := by
  rw [final_result]
  refine Eq.trans (congrArg₂ (· + ·) (u_real m c R n) (row_real m c R _ _ (fun j => ?_) n)) (EReal.coe_add _ _).symm
  exact (congrArg₂ (· + ·) (v_real m c R j) (row_real m c R _ _ (w_real m c R) j)).trans (EReal.coe_add _ _).symm

end Kernel

section Reference

variable {x : FVec Ideal ⟨2, ![4096, 256]⟩ .f32} {L : FVec Ideal ⟨2, ![4096, 4096]⟩ .f32} {W1 : FVec Ideal ⟨3, ![256, 256, 2]⟩ .f32}
  {W2 : FVec Ideal ⟨3, ![256, 1, 2]⟩ .f32} (R : Reals x L W1 W2)

/-- The reference's first layer, by entry. -/
theorem hidden_real (n : Fin 4096) (o : Fin 256) : hidden L x W1 (ix2 n o) = ((R.X * R.W 0 + (R.M * R.X) * R.W 1) n o : ℝ) := by
  rw [hidden_entry, Finset.sum_add_distrib]
  refine (congrArg₂ (· + ·) (sum_mul_real _ _ _ _ (fun i => R.hX n i) fun i => R.hW 0 i o)
    (sum_mul_real _ _ _ _ (fun i => ?_) fun i => R.hW 1 i o)).trans (EReal.coe_add _ _).symm
  exact sum_mul_real _ _ _ _ (fun j => R.hM n j) fun j => R.hX j i

/-- The reference's result, by entry. -/
theorem reference_real (n : Fin 4096) : result L x W1 W2 (ix2 n 0)
    = (((R.X * R.W 0 + (R.M * R.X) * R.W 1) *ᵥ R.p 0 + (R.M * (R.X * R.W 0 + (R.M * R.X) * R.W 1)) *ᵥ R.p 1) n : ℝ) := by
  rw [result_entry, Finset.sum_add_distrib]
  refine (congrArg₂ (· + ·) (sum_mul_real _ _ _ _ (fun o => hidden_real R n o) fun o => R.hp 0 o)
    (sum_mul_real _ _ _ _ (fun o => ?_) fun o => R.hp 1 o)).trans (EReal.coe_add _ _).symm
  exact sum_mul_real _ _ _ _ (fun j => R.hM n j) fun j => hidden_real R j o

end Reference

/-- From finite arguments the kernel's result is the reference's. -/
theorem final_eq (m : (ℓ : Loc Cert.KernelIdeal.nD Cert.KernelIdeal.τ Cert.KernelIdeal.sig) → Buf (Elt Ideal) ℓ) (h : Cert.Pre_KernelIdeal_finite m)
    (c : Dev Cert.KernelIdeal.nD) : final m c Cert.KernelIdeal.main_v9 = result (L m c) (X m c) (W1 m c) (W2 m c) := by
  obtain ⟨R⟩ := reals_of_pre _ _ _ _ (h c)
  funext i
  rw [show (i : Cert.KernelIdeal.S4096x1.Idx) = ix2 (i 0) 0 from Shape.idx_ext₂ rfl (by have : ((i : Cert.KernelIdeal.S4096x1.Idx) 1).val < 1 := (i 1).isLt; show (i 1).val = 0; omega)]
  refine (kernel_real m c R (i 0)).trans (Eq.trans ?_ (reference_real R (i 0)).symm)
  rw [layers]

/-- From finite arguments the two programs end with the same result. -/
theorem algebraic : Cert.algebraic_KernelIdeal_ReferenceIdeal_pre_finite := fun m g m' g' hpre hargs => by
  refine ⟨fun c => final m c Cert.KernelIdeal.main_v9,
    (θ_run _ _ _).mono (fun _ h => h.1) (Cert.Frames.kernel (F := Ideal) m g),
    (θ_run _ _ _).mono (fun _ h c => ⟨(h c).1.trans ?_, (h c).2⟩) (Cert.ReferenceIdeal.Value.run (F := Ideal) m' g')⟩
  obtain ⟨h0, h1, h2, h3⟩ := hargs c
  refine Eq.trans ?_ (final_eq m hpre c).symm
  show result (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [h0, h1, h2, h3]

end Cert.Equation

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.Pre_finite

/-!
The assembly: the kernel and the reference run and keep their arguments (`Frames`), the idealized kernel has the
kernel's own text, and from finite arguments the two results are equal (`Equation`).
-/

@[expose] public section

noncomputable section

namespace Cert.Proof

open Idealize.ShloMosaic Idealize.SL.Sem

/-- All the claims hold. -/
theorem claim : Cert.Claim :=
  ⟨Cert.Kernel.Gen.facts, Cert.KernelIdeal.Gen.facts, Cert.ReferenceIdeal.Gen.facts, Cert.Pre_finite.Gen.facts,
    Cert.Frames.frame_kernel, Cert.Frames.frame_kernelIdeal, Cert.Frames.frame_kernelIdeal_finite,
    Cert.Frames.frame_referenceIdeal, Cert.Frames.frame_referenceIdeal_finite, trivial, Cert.Equation.algebraic⟩

end Cert.Proof

end
